-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonzero_y_global [hPre_nonzero_y_global : Cert.Pre_nonzero_y_global.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero_y_global.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero_y_global [hPre_nonzero_y_global : Cert.Pre_nonzero_y_global.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero_y_global.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_nonzero_y_global [hKernelIdeal : Cert.KernelIdeal.Facts] [hPre_nonzero_y_global : Cert.Pre_nonzero_y_global.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero_y_global m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_nonzero_y_global [hReferenceIdeal : Cert.ReferenceIdeal.Facts] [hPre_nonzero_y_global : Cert.Pre_nonzero_y_global.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero_y_global m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_nonzero_y_global [hKernelIdeal : Cert.KernelIdeal.Facts] [hReferenceIdeal : Cert.ReferenceIdeal.Facts] [hPre_nonzero_y_global : Cert.Pre_nonzero_y_global.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero_y_global m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_nonzero_y_global : Cert.Pre_nonzero_y_global.Facts),
    quiescent_Kernel (hKernel := hKernel)
    ∧ quiescent_KernelIdeal (hKernelIdeal := hKernelIdeal)
    ∧ quiescent_KernelIdeal_pre_nonzero_y_global (hKernelIdeal := hKernelIdeal) (hPre_nonzero_y_global := hPre_nonzero_y_global)
    ∧ quiescent_ReferenceIdeal (hReferenceIdeal := hReferenceIdeal)
    ∧ quiescent_ReferenceIdeal_pre_nonzero_y_global (hReferenceIdeal := hReferenceIdeal) (hPre_nonzero_y_global := hPre_nonzero_y_global)
    ∧ preserves_Kernel_KernelIdeal
    ∧ algebraic_KernelIdeal_ReferenceIdeal_pre_nonzero_y_global (hKernelIdeal := hKernelIdeal) (hReferenceIdeal := hReferenceIdeal) (hPre_nonzero_y_global := hPre_nonzero_y_global)
-- ==== Pre_nonzero_y_global.lean ====
abbrev S1536x3072 : Shape := ⟨2, ![1536, 3072]⟩
abbrev S1536x48 : Shape := ⟨2, ![1536, 48]⟩
abbrev S_ : Shape := ⟨0, ![]⟩
abbrev S1536x9216 : Shape := ⟨2, ![1536, 9216]⟩
abbrev S192x9216 : Shape := ⟨2, ![192, 9216]⟩
abbrev S48x9216 : Shape := ⟨2, ![48, 9216]⟩
abbrev S9216 : Shape := ⟨1, ![9216]⟩
abbrev S9216x48 : Shape := ⟨2, ![9216, 48]⟩

class Facts : Prop where

variable [Facts]

def fn {F : FTy → Type} [FloatOps F] (main_arg0 : FVec F S1536x3072 .bf16) (main_arg1 : FVec F S1536x48 .bf16) (main_arg2 : FVec F S_ .f32) (main_arg3 : IVec S1536x9216 8) (main_arg4 : FVec F S192x9216 .fp8e4m3) (main_arg5 : FVec F S_ .f32) (main_arg6 : FVec F S48x9216 .bf16) (main_arg7 : FVec F S9216 .f32) (main_arg8 : FVec F S9216 .f32) (main_arg9 : FVec F S_ .f32) (main_arg10 : FVec F S9216x48 .bf16) : IVec S_ 1 :=
  let main_cst : FVec F S_ .f32 := constant S_ .f32 0x00000000#32
  let main_v0 : IVec S_ 1 := cmpf .une main_arg9 main_cst
  main_v0
-- ==== Kernel.lean ====
abbrev S1536x3072 : Shape := ⟨2, ![1536, 3072]⟩
abbrev S1536x48 : Shape := ⟨2, ![1536, 48]⟩
abbrev S_ : Shape := ⟨0, ![]⟩
abbrev S1536x9216 : Shape := ⟨2, ![1536, 9216]⟩
abbrev S192x9216 : Shape := ⟨2, ![192, 9216]⟩
abbrev S48x9216 : Shape := ⟨2, ![48, 9216]⟩
abbrev S9216 : Shape := ⟨1, ![9216]⟩
abbrev S9216x48 : Shape := ⟨2, ![9216, 48]⟩
abbrev S1 : Shape := ⟨1, ![1]⟩
abbrev S3 : Shape := ⟨1, ![3]⟩
abbrev S1x9216 : Shape := ⟨2, ![1, 9216]⟩
abbrev S1536x4608 : Shape := ⟨2, ![1536, 4608]⟩
abbrev S18x1536x32 : Shape := ⟨3, ![18, 1536, 32]⟩
abbrev S256x3072 : Shape := ⟨2, ![256, 3072]⟩
abbrev S256x48 : Shape := ⟨2, ![256, 48]⟩
abbrev S1536x512 : Shape := ⟨2, ![1536, 512]⟩
abbrev S192x512 : Shape := ⟨2, ![192, 512]⟩
abbrev S48x512 : Shape := ⟨2, ![48, 512]⟩
abbrev S1x512 : Shape := ⟨2, ![1, 512]⟩
abbrev S512x48 : Shape := ⟨2, ![512, 48]⟩
abbrev S256x512 : Shape := ⟨2, ![256, 512]⟩
abbrev S256x256 : Shape := ⟨2, ![256, 256]⟩
abbrev S1x256x32 : Shape := ⟨3, ![1, 256, 32]⟩
abbrev S3072x512 : Shape := ⟨2, ![3072, 512]⟩
abbrev S512x128 : Shape := ⟨2, ![512, 128]⟩
abbrev S32x128 : Shape := ⟨2, ![32, 128]⟩
abbrev S32x512 : Shape := ⟨2, ![32, 512]⟩
abbrev S32x1x512 : Shape := ⟨3, ![32, 1, 512]⟩
abbrev S32x2x512 : Shape := ⟨3, ![32, 2, 512]⟩
abbrev S64x512 : Shape := ⟨2, ![64, 512]⟩
abbrev S16x512 : Shape := ⟨2, ![16, 512]⟩
abbrev S128x128 : Shape := ⟨2, ![128, 128]⟩
abbrev S16x128 : Shape := ⟨2, ![16, 128]⟩
abbrev S1x128 : Shape := ⟨2, ![1, 128]⟩
abbrev S64x2x128 : Shape := ⟨3, ![64, 2, 128]⟩
abbrev S64x1x128 : Shape := ⟨3, ![64, 1, 128]⟩
abbrev S64x128 : Shape := ⟨2, ![64, 128]⟩
abbrev S128x32 : Shape := ⟨2, ![128, 32]⟩
abbrev S1x128x32 : Shape := ⟨3, ![1, 128, 32]⟩
abbrev S128x64 : Shape := ⟨2, ![128, 64]⟩

abbrev nBuf : Space → Nat
  | .hbm => 21
  | .vmem => 27
  | .smem => 1
  | _ => 0

abbrev bufTy : (tb : Table) → Fin (tcTables nBuf tb) → BufTy
  | .hbm, ⟨0, _⟩ => ⟨S1536x3072, .bf16⟩
  | .hbm, ⟨1, _⟩ => ⟨S1536x48, .bf16⟩
  | .hbm, ⟨2, _⟩ => ⟨S_, .f32⟩
  | .hbm, ⟨3, _⟩ => ⟨S1536x9216, .i8⟩
  | .hbm, ⟨4, _⟩ => ⟨S192x9216, .fp8e4m3⟩
  | .hbm, ⟨5, _⟩ => ⟨S_, .f32⟩
  | .hbm, ⟨6, _⟩ => ⟨S48x9216, .bf16⟩
  | .hbm, ⟨7, _⟩ => ⟨S9216, .f32⟩
  | .hbm, ⟨8, _⟩ => ⟨S9216, .f32⟩
  | .hbm, ⟨9, _⟩ => ⟨S_, .f32⟩
  | .hbm, ⟨10, _⟩ => ⟨S9216x48, .bf16⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S3, .f32⟩
  | .hbm, ⟨15, _⟩ => ⟨S1x9216, .f32⟩
  | .hbm, ⟨16, _⟩ => ⟨S1x9216, .f32⟩
  | .hbm, ⟨17, _⟩ => ⟨S1536x9216, .bf16⟩
  | .hbm, ⟨18, _⟩ => ⟨S1536x48, .f32⟩
  | .hbm, ⟨19, _⟩ => ⟨S1536x4608, .i8⟩
  | .hbm, ⟨20, _⟩ => ⟨S18x1536x32, .fp8e4m3⟩
  | .local _ .vmem, ⟨0, _⟩ => ⟨S256x3072, .bf16⟩
  | .local _ .vmem, ⟨1, _⟩ => ⟨S256x3072, .bf16⟩
  | .local _ .vmem, ⟨2, _⟩ => ⟨S256x48, .bf16⟩
  | .local _ .vmem, ⟨3, _⟩ => ⟨S256x48, .bf16⟩
  | .local _ .vmem, ⟨4, _⟩ => ⟨S1536x512, .i8⟩
  | .local _ .vmem, ⟨5, _⟩ => ⟨S1536x512, .i8⟩
  | .local _ .vmem, ⟨6, _⟩ => ⟨S192x512, .fp8e4m3⟩
  | .local _ .vmem, ⟨7, _⟩ => ⟨S192x512, .fp8e4m3⟩
  | .local _ .vmem, ⟨8, _⟩ => ⟨S48x512, .bf16⟩
  | .local _ .vmem, ⟨9, _⟩ => ⟨S48x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x48, .bf16⟩
  | .local _ .vmem, ⟨15, _⟩ => ⟨S512x48, .bf16⟩
  | .local _ .vmem, ⟨16, _⟩ => ⟨S256x512, .bf16⟩
  | .local _ .vmem, ⟨17, _⟩ => ⟨S256x512, .bf16⟩
  | .local _ .vmem, ⟨18, _⟩ => ⟨S1536x48, .f32⟩
  | .local _ .vmem, ⟨19, _⟩ => ⟨S256x256, .i8⟩
  | .local _ .vmem, ⟨20, _⟩ => ⟨S256x256, .i8⟩
  | .local _ .vmem, ⟨21, _⟩ => ⟨S1x256x32, .fp8e4m3⟩
  | .local _ .vmem, ⟨22, _⟩ => ⟨S1x256x32, .fp8e4m3⟩
  | .local _ .vmem, ⟨23, _⟩ => ⟨S3072x512, .bf16⟩
  | .local _ .vmem, ⟨24, _⟩ => ⟨S192x512, .f32⟩
  | .local _ .vmem, ⟨25, _⟩ => ⟨S512x128, .f32⟩
  | .local _ .vmem, ⟨26, _⟩ => ⟨S32x128, .f32⟩
  | .local _ .smem, ⟨0, _⟩ => ⟨S3, .f32⟩
  | _, _ => ⟨S1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![18, 6], ![false, false]⟩

def k0_cond2 (i : grid0.Coords) : BitVec 1 :=
  let arg0 : BitVec 32 := BitVec.ofNat 32 (i 0).val
  let c0_i32_23 : BitVec 32 := 0#32
  let v43 : BitVec 1 := Scalar.cmpi .eq arg0 c0_i32_23
  let v44 : BitVec 32 := Scalar.extui v43
  let c0_i32_24 : BitVec 32 := 0#32
  let v45 : BitVec 1 := Scalar.cmpi .ne v44 c0_i32_24
  v45

def k0_off1 (i : grid0.Coords) : Fin 2 → Nat :=
  let arg1 : BitVec 32 := BitVec.ofNat 32 (i 1).val
  let c256_i32 : BitVec 32 := 256#32
  let v42 : BitVec 32 := Scalar.muli arg1 c256_i32
  let v1133 : Index := Scalar.indexCast v42
  let c0_572 : Index := 0#32
  ![v1133.toNat, 0]
def k0_cond3 (i : grid0.Coords) : BitVec 1 :=
  let arg0 : BitVec 32 := BitVec.ofNat 32 (i 0).val
  let c0_i32_25 : BitVec 32 := 0#32
  let v46 : BitVec 1 := Scalar.cmpi .sgt arg0 c0_i32_25
  let v47 : BitVec 32 := Scalar.extui v46
  let c0_i32_26 : BitVec 32 := 0#32
  let v48 : BitVec 1 := Scalar.cmpi .ne v47 c0_i32_26
  v48

def k0_off2 (i : grid0.Coords) : Fin 2 → Nat :=
  let arg1 : BitVec 32 := BitVec.ofNat 32 (i 1).val
  let c256_i32 : BitVec 32 := 256#32
  let v42 : BitVec 32 := Scalar.muli arg1 c256_i32
  let v1133 : Index := Scalar.indexCast v42
  let c0_572 : Index := 0#32
  ![v1133.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x48 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S192x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S48x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x48 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1536x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x256 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x32 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S1536x3072 : Shape := ⟨2, ![1536, 3072]⟩
abbrev S1536x48 : Shape := ⟨2, ![1536, 48]⟩
abbrev S_ : Shape := ⟨0, ![]⟩
abbrev S1536x9216 : Shape := ⟨2, ![1536, 9216]⟩
abbrev S192x9216 : Shape := ⟨2, ![192, 9216]⟩
abbrev S48x9216 : Shape := ⟨2, ![48, 9216]⟩
abbrev S9216 : Shape := ⟨1, ![9216]⟩
abbrev S9216x48 : Shape := ⟨2, ![9216, 48]⟩
abbrev S1 : Shape := ⟨1, ![1]⟩
abbrev S1x9216 : Shape := ⟨2, ![1, 9216]⟩
abbrev S1536x4608 : Shape := ⟨2, ![1536, 4608]⟩
abbrev S18x1536x32 : Shape := ⟨3, ![18, 1536, 32]⟩
abbrev S192x1x9216 : Shape := ⟨3, ![192, 1, 9216]⟩
abbrev S192x8x9216 : Shape := ⟨3, ![192, 8, 9216]⟩
abbrev S1536x1x9216 : Shape := ⟨3, ![1536, 1, 9216]⟩
abbrev S1536x2x9216 : Shape := ⟨3, ![1536, 2, 9216]⟩
abbrev S3072x9216 : Shape := ⟨2, ![3072, 9216]⟩
abbrev S1536x576x16 : Shape := ⟨3, ![1536, 576, 16]⟩
abbrev S1536x576 : Shape := ⟨2, ![1536, 576]⟩
abbrev S1536x576x1 : Shape := ⟨3, ![1536, 576, 1]⟩
abbrev S1536x4608x2 : Shape := ⟨3, ![1536, 4608, 2]⟩
abbrev S1536x4608x1 : Shape := ⟨3, ![1536, 4608, 1]⟩
abbrev S1536x18x32 : Shape := ⟨3, ![1536, 18, 32]⟩

abbrev nBuf : Space → Nat
  | .hbm => 20
  | .vmem => 12
  | .smem => 3
  | _ => 0

abbrev bufTy : (tb : Table) → Fin (tcTables nBuf tb) → BufTy
  | .hbm, ⟨0, _⟩ => ⟨S1536x3072, .bf16⟩
  | .hbm, ⟨1, _⟩ => ⟨S1536x48, .bf16⟩
  | .hbm, ⟨2, _⟩ => ⟨S_, .f32⟩
  | .hbm, ⟨3, _⟩ => ⟨S1536x9216, .i8⟩
  | .hbm, ⟨4, _⟩ => ⟨S192x9216, .fp8e4m3⟩
  | .hbm, ⟨5, _⟩ => ⟨S_, .f32⟩
  | .hbm, ⟨6, _⟩ => ⟨S48x9216, .bf16⟩
  | .hbm, ⟨7, _⟩ => ⟨S9216, .f32⟩
  | .hbm, ⟨8, _⟩ => ⟨S9216, .f32⟩
  | .hbm, ⟨9, _⟩ => ⟨S_, .f32⟩
  | .hbm, ⟨10, _⟩ => ⟨S9216x48, .bf16⟩
  | .hbm, ⟨11, _⟩ => ⟨S1, .f32⟩
  | .hbm, ⟨12, _⟩ => ⟨S1, .f32⟩
  | .hbm, ⟨13, _⟩ => ⟨S1x9216, .f32⟩
  | .hbm, ⟨14, _⟩ => ⟨S1x9216, .f32⟩
  | .hbm, ⟨15, _⟩ => ⟨S1, .f32⟩
  | .hbm, ⟨16, _⟩ => ⟨S1536x9216, .bf16⟩
  | .hbm, ⟨17, _⟩ => ⟨S1536x48, .f32⟩
  | .hbm, ⟨18, _⟩ => ⟨S1536x4608, .i8⟩
  | .hbm, ⟨19, _⟩ => ⟨S18x1536x32, .fp8e4m3⟩
  | .local _ .vmem, ⟨0, _⟩ => ⟨S1536x3072, .bf16⟩
  | .local _ .vmem, ⟨1, _⟩ => ⟨S1536x48, .bf16⟩
  | .local _ .vmem, ⟨2, _⟩ => ⟨S1536x9216, .i8⟩
  | .local _ .vmem, ⟨3, _⟩ => ⟨S192x9216, .fp8e4m3⟩
  | .local _ .vmem, ⟨4, _⟩ => ⟨S48x9216, .bf16⟩
  | .local _ .vmem, ⟨5, _⟩ => ⟨S1x9216, .f32⟩
  | .local _ .vmem, ⟨6, _⟩ => ⟨S1x9216, .f32⟩
  | .local _ .vmem, ⟨7, _⟩ => ⟨S9216x48, .bf16⟩
  | .local _ .vmem, ⟨8, _⟩ => ⟨S1536x9216, .bf16⟩
  | .local _ .vmem, ⟨9, _⟩ => ⟨S1536x48, .f32⟩
  | .local _ .vmem, ⟨10, _⟩ => ⟨S1536x4608, .i8⟩
  | .local _ .vmem, ⟨11, _⟩ => ⟨S18x1536x32, .fp8e4m3⟩
  | .local _ .smem, ⟨0, _⟩ => ⟨S1, .f32⟩
  | .local _ .smem, ⟨1, _⟩ => ⟨S1, .f32⟩
  | .local _ .smem, ⟨2, _⟩ => ⟨S1, .f32⟩
  | _, _ => ⟨S1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg13_0 : Ref sig .tc := ⟨.vmem, 10, rfl⟩
abbrev cc0_stg14_0 : Ref sig .tc := ⟨.vmem, 11, rfl⟩
abbrev cc0_stg2_0 : Ref sig .tc := ⟨.smem, 0, rfl⟩
abbrev cc0_stg5_0 : Ref sig .tc := ⟨.smem, 1, rfl⟩
abbrev cc0_stg9_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x9216 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x9216 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x9216 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x9216 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x9216 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S9216x48 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x9216 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x48 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x4608 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S18x1536x32 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.PFrame.Runs.lean ====
/- What the runs of the printed kernel's frame share: the kit of the frame claim (`hmain`, `V`, `iblk`, `frame_of`), the body's
   branch conditions in closed form over the grid, the staging and scratch memrefs. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Held

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 5 rfl).trans ((hA c 5).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in h c 8 rfl).trans ((hA c 8).trans (V_main_arg10 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 6) — by arithmetic of the point. -/
theorem hcond0_0 : ∀ t : Fin cfg0.N, cond0_0 (grid0.coords t) ↔ t.val % 6 = 0 :=
  (fun t => by
    have ht : t.val < 108 := Nat.lt_of_lt_of_eq t.isLt N_0
    have e0 : (grid0.coords t 0).val = t.val / 6 % 18 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points before point 6 — by arithmetic of the point. -/
theorem hcond0_1 : ∀ t : Fin cfg0.N, cond0_1 (grid0.coords t) ↔ t.val < 6 :=
  (fun t => by
    have ht : t.val < 108 := Nat.lt_of_lt_of_eq t.isLt N_0
    have e0 : (grid0.coords t 0).val = t.val / 6 % 18 := Pipeline.Grid.coords_val t 0 (by decide) rfl
    have e1 : (grid0.coords t 1).val = t.val / 1 % 6 := Pipeline.Grid.coords_val t 1 (by decide) rfl
    simp only [cond0_1, k0_cond2, e0, e1]
    word_cmp
   : ∀ t : Fin grid0.N, cond0_1 (grid0.coords t) ↔ t.val < 6)

/-- The condition of the body's `scf.if` 2 (`k0_h3`), from the grid coordinates (the skeleton's scalar
    chain substituted). -/
abbrev cond0_2 (i : grid0.Coords) : Prop := k0_cond3 i = 1#1
/-- It holds at the points from point 6 on — decided over the grid. -/
theorem hcond0_2 : ∀ t : Fin cfg0.N, cond0_2 (grid0.coords t) ↔ 6 ≤ t.val :=
  (by decide +kernel : ∀ t : Fin grid0.N, cond0_2 (grid0.coords t) ↔ 6 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x48 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S192x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x48 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1536x48 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x32 .fp8e4m3 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S3072x512 .bf16 := Memref.whole cc0_scratch0
abbrev scM0_1 : Memref sig .tc .vmem S192x512 .f32 := Memref.whole cc0_scratch1
abbrev scM0_2 : Memref sig .tc .vmem S512x128 .f32 := Memref.whole cc0_scratch2
abbrev scM0_3 : Memref sig .tc .vmem S32x128 .f32 := Memref.whole cc0_scratch3
/-- The scratch `arg15` the kernel carries between points, as a view: what it holds is stated through it. -/
abbrev VS0_0 : View sig .tc .vmem S3072x512 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Held

end
-- ==== Proof.PFrame.RunA.lean ====
/- The whole-body run of the printed kernel in case A of its conditionals (first column tile, first row tile):
   the body's triple, with the pieces the decoded-weights scratch ends with. -/
module

public import proofs.«01_k».proof.Proof.PFrame.Runs

@[expose] public section

-- membership in a rectangle of production extents (`View.cover_of_tiled`): the elaborator's structural look
-- recurses once per coordinate of the long axes
set_option maxRecDepth 16384

noncomputable section

namespace Cert.Kernel.Held

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3276000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12) at anything, handed back at some contents nothing names. -/
noncomputable def kernelRun0_A (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) :
    Σ' (LS0 : List (View.Piece (Elt F) S3072x512 .bf16)), { LT1 : List (View.Piece (Elt F) S192x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LT1) ∗ (∃ d, owns (c : Thread nD τ) arg17 fullShare d) ∗ (∃ d, owns (c : Thread nD τ) arg18 fullShare d)) -∗ K ⟨⟩))
          ⊢ wp frame (wpE (defs₀ (F := F)) Variants.none c none) E (cc0_fc1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_fc1_eq_skeleton]; unfold cc0_fc1_skel
    simp only [k0_part61_eq_skeleton, k0_part60_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]; · iexists _; iexact HS0
    isplitl [HS1]; · iexists _; iexact HS1
    isplitl [HS2]
    · iexists _, _; isplitr; swap; · iexact HS2
      ipureintro; rfl
    iexists _, _; isplitr; swap; · iexact HS3
    ipureintro; rfl

end Cert.Kernel.Held

end
-- ==== Proof.PFrame.RunB.lean ====
/- The whole-body run of the printed kernel in case B of its conditionals (first column tile, a later row tile):
   the body's triple, with the pieces the decoded-weights scratch ends with. -/
module

public import proofs.«01_k».proof.Proof.PFrame.RunA

@[expose] public section

-- membership in a rectangle of production extents (`View.cover_of_tiled`): the elaborator's structural look
-- recurses once per coordinate of the long axes
set_option maxRecDepth 16384

noncomputable section

namespace Cert.Kernel.Held

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1232000 in
/-- What the body's stores leave in each output's staging memref, as pieces (last first) IN CASE B (`scf.if` 0 not taken, `scf.if` 1 taken, `scf.if` 2 not taken: points 1, 2, 3, 4, 5), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12) at anything, handed back at some contents nothing names. -/
noncomputable def kernelRun0_B (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (xs0 : Vec F S3072x512 .bf16) :
    Σ' (LS0 : List (View.Piece (Elt F) S3072x512 .bf16)), { LT1 : List (View.Piece (Elt F) S192x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_fc1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], fun E K => ?run⟩
  case run =>
    simp only [cc0_fc1_eq_skeleton]; unfold cc0_fc1_skel
    simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg15.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _; isplitr; · ipureintro; exact harg15.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Held

end
-- ==== Proof.PFrame.RunC.lean ====
/- The whole-body run of the printed kernel in case C of its conditionals (a later column tile, first row tile):
   the body's triple, with the pieces the decoded-weights scratch ends with. -/
module

public import proofs.«01_k».proof.Proof.PFrame.RunB

@[expose] public section

-- membership in a rectangle of production extents (`View.cover_of_tiled`): the elaborator's structural look
-- recurses once per coordinate of the long axes
set_option maxRecDepth 16384

noncomputable section

namespace Cert.Kernel.Held

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3284000 in
/-- What the body's stores leave in each output's staging memref, as pieces (last first) IN CASE C (`scf.if` 0 taken, `scf.if` 1 not taken, `scf.if` 2 taken: points 6, 12, … 102: 17 of 108), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12) at anything, handed back at some contents nothing names. -/
noncomputable def kernelRun0_C (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) :
    Σ' (LS0 : List (View.Piece (Elt F) S3072x512 .bf16)), { LT1 : List (View.Piece (Elt F) S192x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LT1) ∗ (∃ d, owns (c : Thread nD τ) arg17 fullShare d) ∗ (∃ d, owns (c : Thread nD τ) arg18 fullShare d)) -∗ K ⟨⟩))
          ⊢ wp frame (wpE (defs₀ (F := F)) Variants.none c none) E (cc0_fc1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_fc1_eq_skeleton]; unfold cc0_fc1_skel
    simp only [k0_part61_eq_skeleton, k0_part60_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]; · iexists _; iexact HS0
    isplitl [HS1]; · iexists _; iexact HS1
    isplitl [HS2]
    · iexists _, _; isplitr; swap; · iexact HS2
      ipureintro; rfl
    iexists _, _; isplitr; swap; · iexact HS3
    ipureintro; rfl

end Cert.Kernel.Held

end
-- ==== Proof.PFrame.RunD.lean ====
/- The whole-body run of the printed kernel in case D of its conditionals (a later column tile, a later row tile):
   the body's triple, with the pieces the decoded-weights scratch ends with. -/
module

public import proofs.«01_k».proof.Proof.PFrame.RunC

@[expose] public section

-- membership in a rectangle of production extents (`View.cover_of_tiled`): the elaborator's structural look
-- recurses once per coordinate of the long axes
set_option maxRecDepth 16384

noncomputable section

namespace Cert.Kernel.Held

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1240000 in
/-- What the body's stores leave in each output's staging memref, as pieces (last first) IN CASE D (`scf.if` 0 not taken, `scf.if` 1 not taken, `scf.if` 2 taken: points 7, 8, … 107: 85 of 108), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12) at anything, handed back at some contents nothing names. -/
noncomputable def kernelRun0_D (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (xs0 : Vec F S3072x512 .bf16) :
    Σ' (LS0 : List (View.Piece (Elt F) S3072x512 .bf16)), { LT1 : List (View.Piece (Elt F) S192x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_fc1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], fun E K => ?run⟩
  case run =>
    simp only [cc0_fc1_eq_skeleton]; unfold cc0_fc1_skel
    simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg15.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _; isplitr; · ipureintro; exact harg15.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Held

end
-- ==== Proof.PFrame.Frame.lean ====
/- The frame of the printed kernel, whatever float values it computes with: what the carried scratch holds point by point, the
   proof data, the body obligation, the run (`run_main`) and `frame`; nothing is stated here of what the outputs hold. -/
module

public import proofs.«01_k».proof.Proof.PFrame.RunD
public import Idealize.ShloMosaic.Lib.Claim

@[expose] public section

-- membership in a rectangle of production extents (`View.cover_of_tiled`): the elaborator's structural look
-- recurses once per coordinate of the long axes
set_option maxRecDepth 16384

noncomputable section

namespace Cert.Kernel.Held

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg15`, which the kernel carries between points, cover it: 48 pieces of `S64x512` tiling it (Lib/Ring.lean `Piece.tiledL`). -/
theorem scover0_A_0 (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (y : S3072x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).1 S64x512.size (by sl_kernel_rfl) y

/-- What case A leaves in scratch `arg15`: its pieces read back over junk. -/
def sout0_A_0 (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) : Vec F S3072x512 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).1)

/-- Case B stores nothing into scratch `arg15`: it holds what the point before left. -/
def sout0_B_0 (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (xs0 : Vec F S3072x512 .bf16) : Vec F S3072x512 .bf16 := xs0

/-- Case C's pieces for scratch `arg15`, which the kernel carries between points, cover it: 48 pieces of `S64x512` tiling it (Lib/Ring.lean `Piece.tiledL`). -/
theorem scover0_C_0 (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (y : S3072x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).1 S64x512.size (by sl_kernel_rfl) y

/-- What case C leaves in scratch `arg15`: its pieces read back over junk. -/
def sout0_C_0 (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) : Vec F S3072x512 .bf16 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).1)

/-- Case D stores nothing into scratch `arg15`: it holds what the point before left. -/
def sout0_D_0 (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (xs0 : Vec F S3072x512 .bf16) : Vec F S3072x512 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S3072x512 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)
  | n + 1, hn =>
    if h0 : (n + 1) % 6 = 0 then
      if h1 : (n + 1) < 6 then
        if h2 : 6 ≤ (n + 1) then
          False.elim (by have hN : n + 1 < 108 := lt_of_lt_of_eq hn (show cfg0.N = 108 from N_0); omega)
        else
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
      else
        if h2 : 6 ≤ (n + 1) then
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
        else
          False.elim (by have hN : n + 1 < 108 := lt_of_lt_of_eq hn (show cfg0.N = 108 from N_0); omega)
    else
      if h1 : (n + 1) < 6 then
        if h2 : 6 ≤ (n + 1) then
          False.elim (by have hN : n + 1 < 108 := lt_of_lt_of_eq hn (show cfg0.N = 108 from N_0); omega)
        else
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn))
      else
        if h2 : 6 ≤ (n + 1) then
          sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn))
        else
          False.elim (by have hN : n + 1 < 108 := lt_of_lt_of_eq hn (show cfg0.N = 108 from N_0); omega)

/-- `outsAt0` at a point of case A: that case's contents. -/
theorem outsAt0_A (c : Dev nD) (t : Fin cfg0.N) (h0 : t.val % 6 = 0) (h1 : t.val < 6) (h2 : ¬6 ≤ t.val) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 6 = 0) (h1 : t.val < 6) (h2 : ¬6 ≤ t.val) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents. -/
theorem outsAt0_C (c : Dev nD) (t : Fin cfg0.N) (h0 : t.val % 6 = 0) (h1 : ¬t.val < 6) (h2 : 6 ≤ t.val) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact (by exfalso; (try dsimp only at h1); exact by omega)
  | succ n => exact (dif_pos h0).trans ((dif_neg h1).trans ((dif_pos h2).trans rfl))

/-- `outsAt0` at a point of case D: that case's contents, over what the point before left. -/
theorem outsAt0_D (c : Dev nD) (t : Fin cfg0.N) (h0 : ¬t.val % 6 = 0) (h1 : ¬t.val < 6) (h2 : 6 ≤ t.val) :
    outsAt0 m c t.val t.isLt = sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The output windows this certificate FORGETS (9, 10, 11, 12): nothing reads what the kernel leaves in them, so nothing
    of it is named (Lib/Pipeline/Dat.lean `Dat.toRForget`). -/
def forgets0 : Fin 13 → Bool := fun w => w.val == 9 || w.val == 10 || w.val == 11 || w.val == 12

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 25600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 108 := lt_of_lt_of_eq t.isLt (show cfg0.N = 108 from N_0)
  by_cases h0 : t.val % 6 = 0
  · by_cases h1 : t.val < 6
    · by_cases h2 : 6 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        by_cases hz : t.val = 0
        · rw [PhiS_castSucc m c t, PhiS_zero m c _ _ hz, PhiA0_eq]
          rw [outsAt0_A m c t h0 h1 h2]
          unfold sout0_A_0
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t)).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [HS0]; · iexact HS0
          isplitl [HS1]; · iexact HS1
          isplitl [HS2]; · iexact HS2
          isplitl [HS3]; · iexact HS3
          iintro ⟨H0, H1, H2, H3, H4, H5, H6, H7, H8, H9, H10, H11, H12, ⟨%es0, HS0⟩, ⟨%fT1, HS1⟩, HS2, HS3⟩
          isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexact H12
        · exfalso; have hN : t.val < 108 := lt_of_lt_of_eq t.isLt (show cfg0.N = 108 from N_0); omega
    · by_cases h2 : 6 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        by_cases hz : t.val = 0
        · exfalso; have hN : t.val < 108 := lt_of_lt_of_eq t.isLt (show cfg0.N = 108 from N_0); omega
        · rw [PhiS_castSucc m c t, PhiS_pos m c _ _ hz]
          rw [outsAt0_C m c t h0 h1 h2]
          unfold sout0_C_0
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_C c (grid0.coords t) _ _ _ _ _ _ _ _ _ _ _ _ _ _ _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t)).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [HS0]; · iexists _; iexact HS0
          isplitl [HS1]; · iexact HS1
          isplitl [HS2]; · iexact HS2
          isplitl [HS3]; · iexact HS3
          iintro ⟨H0, H1, H2, H3, H4, H5, H6, H7, H8, H9, H10, H11, H12, ⟨%es0, HS0⟩, ⟨%fT1, HS1⟩, HS2, HS3⟩
          isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexact H12
      · exfalso; omega
  · by_cases h1 : t.val < 6
    · by_cases h2 : 6 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        by_cases hz : t.val = 0
        · exfalso; have hN : t.val < 108 := lt_of_lt_of_eq t.isLt (show cfg0.N = 108 from N_0); omega
        · rw [PhiS_castSucc m c t, PhiS_pos m c _ _ hz]
          rw [outsAt0_B m c t h0 h1 h2]
          unfold sout0_B_0
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [HS0]; · iexact HS0
          isplitl [HS1]; · iexact HS1
          isplitl [HS2]; · iexact HS2
          isplitl [HS3]; · iexact HS3
          iintro ⟨H0, H1, H2, H3, H4, H5, H6, H7, H8, H9, H10, H11, H12, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexact H12
    · by_cases h2 : 6 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        by_cases hz : t.val = 0
        · exfalso; have hN : t.val < 108 := lt_of_lt_of_eq t.isLt (show cfg0.N = 108 from N_0); omega
        · rw [PhiS_castSucc m c t, PhiS_pos m c _ _ hz]
          rw [outsAt0_D m c t h0 h1 h2]
          unfold sout0_D_0
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_D c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [HS0]; · iexact HS0
          isplitl [HS1]; · iexact HS1
          isplitl [HS2]; · iexact HS2
          isplitl [HS3]; · iexact HS3
          iintro ⟨H0, H1, H2, H3, H4, H5, H6, H7, H8, H9, H10, H11, H12, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexact H12
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 108 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 9, 10, 11, 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Held.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Held

end
-- ==== Proof.Main.Cases.lean ====
/- The conditions of the main call's kernel at a grid point, and the names of its staging and scratch buffers. -/
module

public import proofs.«01_k».proof.Proof.Gen.KernelIdeal.Frame
public import proofs.«01_k».proof.Proof.Gen.KernelIdeal.Skeleton

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition: the row tile is the first one. -/
abbrev cond0_0 (i : grid0.Coords) : Prop := (Scalar.cmpi .ne (Scalar.extui (Scalar.cmpi .eq (BitVec.ofNat 32 (i 1).val) 0#32)) 0#32) = 1#1
/-- It holds at the points ≡ 0 (mod 6) — by arithmetic of the point. -/
theorem hcond0_0 : ∀ t : Fin cfg0.N, cond0_0 (grid0.coords t) ↔ t.val % 6 = 0 :=
  (fun t => by
    have ht : t.val < 108 := Nat.lt_of_lt_of_eq t.isLt N_0
    have e0 : (grid0.coords t 0).val = t.val / 6 % 18 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 6 = 0)

/-- The second conditional's condition: the column tile is the first one. -/
abbrev cond0_1 (i : grid0.Coords) : Prop := k0_cond2 i = 1#1
/-- It holds at the points before point 6 — by arithmetic of the point. -/
theorem hcond0_1 : ∀ t : Fin cfg0.N, cond0_1 (grid0.coords t) ↔ t.val < 6 :=
  (fun t => by
    have ht : t.val < 108 := Nat.lt_of_lt_of_eq t.isLt N_0
    have e0 : (grid0.coords t 0).val = t.val / 6 % 18 := Pipeline.Grid.coords_val t 0 (by decide) rfl
    have e1 : (grid0.coords t 1).val = t.val / 1 % 6 := Pipeline.Grid.coords_val t 1 (by decide) rfl
    simp only [cond0_1, k0_cond2, e0, e1]
    word_cmp
   : ∀ t : Fin grid0.N, cond0_1 (grid0.coords t) ↔ t.val < 6)

/-- The third conditional's condition: the column tile is a later one. -/
abbrev cond0_2 (i : grid0.Coords) : Prop := k0_cond3 i = 1#1
/-- It holds at the points from point 6 on — decided over the grid. -/
theorem hcond0_2 : ∀ t : Fin cfg0.N, cond0_2 (grid0.coords t) ↔ 6 ≤ t.val :=
  (by decide +kernel : ∀ t : Fin grid0.N, cond0_2 (grid0.coords t) ↔ 6 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x48 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S192x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x48 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1536x48 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x32 .fp8e4m3 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S3072x512 .bf16 := Memref.whole cc0_scratch0
abbrev scM0_1 : Memref sig .tc .vmem S192x512 .f32 := Memref.whole cc0_scratch1
abbrev scM0_2 : Memref sig .tc .vmem S512x128 .f32 := Memref.whole cc0_scratch2
abbrev scM0_3 : Memref sig .tc .vmem S32x128 .f32 := Memref.whole cc0_scratch3
/-- The scratch `arg15` the kernel carries between points, as a view: what it holds is stated through it. -/
abbrev VS0_0 : View sig .tc .vmem S3072x512 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Main

end
-- ==== Proof.Main.Ops.lean ====
/- The quantiser's vector operations as one block sees them, named once: the codes of a block, the cleared signs, the scale of the
   groups, its reciprocal, and the lists of what a grid step stores of its codes and of its scales. -/
module

public import proofs.«01_k».proof.Proof.Main.Cases
public import Idealize.ShloMosaic.Lib.WholeRead
public import Idealize.ShloMosaic.Lib.Pointwise.Index
public import proofs.«01_k».proof.Proof.Gen.KernelIdeal.Skeleton

@[expose] public section

set_option maxRecDepth 16384

noncomputable section

namespace Cert.KernelIdeal.Main

open Cert.KernelIdeal Cert.KernelIdeal.Gen
open Idealize.ShloMosaic Idealize.ShloMosaic.TcCoe

variable {F : FTy → Type} [FloatOps F]

/-- One threshold: one where the magnitude is above it. -/
def above (m : FVec F S128x128 .f32) (t : F .f32) : IVec S128x128 32 :=
  select (cmpf .ogt m (broadcast S128x128 t)) (broadcast S128x128 1#32) (broadcast S128x128 0#32)

/-- One threshold: one where the magnitude is at least it. -/
def atLeast (m : FVec F S128x128 .f32) (t : F .f32) : IVec S128x128 32 :=
  select (cmpf .oge m (broadcast S128x128 t)) (broadcast S128x128 1#32) (broadcast S128x128 0#32)

/-- The block clipped to the grid's range. -/
def clipped (q : FVec F S128x128 .f32) : FVec F S128x128 .f32 :=
  minimumf (broadcast S128x128 (Scalar.ofBits .f32 0x40C00000#32)) (maximumf (broadcast S128x128 (Scalar.ofBits .f32 0xC0C00000#32)) q)

/-- How many thresholds each magnitude passes. -/
def passed (m : FVec F S128x128 .f32) : IVec S128x128 32 :=
  addi (addi (addi (addi (addi (addi (above m (Scalar.ofBits .f32 0x3E800000#32)) (atLeast m (Scalar.ofBits .f32 0x3F400000#32)))
    (above m (Scalar.ofBits .f32 0x3FA00000#32))) (atLeast m (Scalar.ofBits .f32 0x3FE00000#32)))
    (above m (Scalar.ofBits .f32 0x40200000#32))) (atLeast m (Scalar.ofBits .f32 0x40600000#32)))
    (above m (Scalar.ofBits .f32 0x40A00000#32))

/-- The four-bit codes of a clipped block, one to a word. -/
def nibbles (q : FVec F S128x128 .f32) : IVec S128x128 32 :=
  select (cmpf .olt q (broadcast S128x128 (Scalar.ofBits .f32 0x00000000#32)))
    (addi (passed (absf q)) (broadcast S128x128 8#32)) (passed (absf q))

/-- Two rows' codes to a byte, the even row's in the low half. -/
def paired (c : IVec S128x128 32) : IVec S64x128 8 :=
  trunci 8 (ori
    (shapeCast S64x128 (extractStridedSlice S64x1x128 ![0, 0, 0] (shapeCast S64x2x128 c shapeCasts_S128x128_S64x2x128) slices_S64x2x128_o0_0_0_S64x1x128) shapeCasts_S64x1x128_S64x128)
    (shli (shapeCast S64x128 (extractStridedSlice S64x1x128 ![0, 1, 0] (shapeCast S64x2x128 c shapeCasts_S128x128_S64x2x128) slices_S64x2x128_o0_1_0_S64x1x128) shapeCasts_S64x1x128_S64x128)
      (broadcast S64x128 4#32))) natLt_8_32

/-- The signs of zeros cleared, four bytes to a word. -/
def cleared (w : IVec S16x128 32) : IVec S16x128 32 :=
  andi w (ori (addi (andi w (broadcast S16x128 2004318071#32)) (broadcast S16x128 2004318071#32)) (broadcast S16x128 2004318071#32))

/-- What is stored of a block: its codes, two to a byte, the signs of zeros cleared, a row of the block a column. -/
def stored (q : FVec F S128x128 .f32) : IVec S128x64 8 :=
  transpose S128x64 [1, 0] (bitcast S64x128 8 (cleared (bitcast S16x128 32 (paired (nibbles (clipped q))) bitcasts_S64x128_w8_S16x128_w32)) bitcasts_S16x128_w32_S64x128_w8) transposes_S64x128_p1_0_S128x64

/-- Sixteen rows each scaled by one row. -/
def scaledRows (t : FVec F S16x128 .f32) (r : FVec F S1x128 .f32) : FVec F S16x128 .f32 :=
  mulf t (broadcastTo S16x128 (shapeCast S1x128 r shapeCasts_S1x128_S1x128) broadcasts_S1x128_S16x128)

/-- Eight groups of rows, one below the other. -/
def stacked (t : Fin 8 → FVec F S16x128 .f32) : FVec F S128x128 .f32 :=
  concatenate S128x128 0 [⟨S16x128, t 0⟩, ⟨S16x128, t 1⟩, ⟨S16x128, t 2⟩, ⟨S16x128, t 3⟩, ⟨S16x128, t 4⟩, ⟨S16x128, t 5⟩, ⟨S16x128, t 6⟩, ⟨S16x128, t 7⟩]
    concatenates_S16x128_S16x128_S16x128_S16x128_S16x128_S16x128_S16x128_S16x128_S128x128_d0

/-- The largest magnitude of each group, from the group's sixteen members. -/
def groupMax (f : Fin 16 → FVec F S32x128 .f32) : FVec F S32x128 .f32 :=
  maximumf (maximumf (maximumf (maximumf (maximumf (maximumf (maximumf (maximumf (maximumf (maximumf (maximumf (maximumf (maximumf
    (maximumf (maximumf (absf (f 0)) (absf (f 1))) (absf (f 2))) (absf (f 3))) (absf (f 4))) (absf (f 5))) (absf (f 6)))
    (absf (f 7))) (absf (f 8))) (absf (f 9))) (absf (f 10))) (absf (f 11))) (absf (f 12))) (absf (f 13))) (absf (f 14))) (absf (f 15))

/-- The scale of a group as eight-bit floats hold it, from its largest magnitude `a` and the global scale `g`, before zero is replaced. -/
def rounded (a : FVec F S32x128 .f32) (g : F .f32) : FVec F S32x128 .f32 :=
  extf .f32 (truncf .fp8e4m3 (minimumf (broadcast S32x128 (Scalar.ofBits .f32 0x43E00000#32)) (maximumf (broadcast S32x128 (Scalar.ofBits .f32 0x00000000#32))
    (divf (mulf a (broadcast S32x128 (Scalar.ofBits .f32 0x3F800800#32))) (broadcast S32x128 (Scalar.mulf (Scalar.ofBits .f32 0x40C00000#32) g))))) bitsLt_fp8e4m3_f32) bitsLt_fp8e4m3_f32

/-- The scale of a group: one where the rounded scale is zero. -/
def scaleOf (a : FVec F S32x128 .f32) (g : F .f32) : FVec F S32x128 .f32 :=
  select (cmpf .oeq (rounded a g) (broadcast S32x128 (Scalar.ofBits .f32 0x00000000#32))) (broadcast S32x128 (Scalar.ofBits .f32 0x3F800000#32)) (rounded a g)

/-- The reciprocal a group's members are multiplied by. -/
def recipOf (s : FVec F S32x128 .f32) (g : F .f32) : FVec F S32x128 .f32 :=
  shapeCast S32x128 (divf (broadcast S32x128 (Scalar.ofBits .f32 0x3F800000#32)) (mulf s (broadcast S32x128 g))) shapeCasts_S32x128_S32x128

/-- A square slice of the step's values, its columns as rows. -/
def turned (o : Fin 2 → ℕ) (h : S256x512.Slices o S128x128) (y : FVec F S256x512 .f32) : FVec F S128x128 .f32 :=
  shapeCast S128x128 (transpose S128x128 [1, 0] (extractStridedSlice S128x128 o y h) transposes_S128x128_p1_0_S128x128) shapeCasts_S128x128_S128x128

/-- What the first half of the rows leaves in the turned values' buffer. -/
def turned0 (y : FVec F S256x512 .f32) : List (View.Piece (Elt F) S512x128 .f32) :=
  [⟨Rect.unit ![384, 0] S128x128.size inb_S512x128_S128x128_384_0, turned ![0, 384] slices_S256x512_o0_384_S128x128 y⟩,
    ⟨Rect.unit ![256, 0] S128x128.size inb_S512x128_S128x128_256_0, turned ![0, 256] slices_S256x512_o0_256_S128x128 y⟩,
    ⟨Rect.unit ![128, 0] S128x128.size inb_S512x128_S128x128_128_0, turned ![0, 128] slices_S256x512_o0_128_S128x128 y⟩,
    ⟨Rect.unit ![0, 0] S128x128.size inb_S512x128_S128x128_0_0, turned ![0, 0] slices_S256x512_o0_0_S128x128 y⟩]

/-- What both halves of the rows leave there, the second half last. -/
def turned1 (y : FVec F S256x512 .f32) : List (View.Piece (Elt F) S512x128 .f32) :=
  ⟨Rect.unit ![384, 0] S128x128.size inb_S512x128_S128x128_384_0, turned ![128, 384] slices_S256x512_o128_384_S128x128 y⟩ ::
    ⟨Rect.unit ![256, 0] S128x128.size inb_S512x128_S128x128_256_0, turned ![128, 256] slices_S256x512_o128_256_S128x128 y⟩ ::
    ⟨Rect.unit ![128, 0] S128x128.size inb_S512x128_S128x128_128_0, turned ![128, 128] slices_S256x512_o128_128_S128x128 y⟩ ::
    ⟨Rect.unit ![0, 0] S128x128.size inb_S512x128_S128x128_0_0, turned ![128, 0] slices_S256x512_o128_0_S128x128 y⟩ :: turned0 y

/-- Entry `k` of the three global scales, as a step loads it. -/
def loadGlobal (arg2 : Memref sig .tc .smem S3 .f32) (harg2 : arg2.IsWhole) (x0 : Vec F S3 .f32) (k : ℕ) (h : ∀ a : Fin 1, ![k] a + S1.size a ≤ S3.size a) : Elt F .f32 :=
  View.readAt (Elt F) arg2.view (Rect.unit (s := S3) ![k] S1.size h).toLoadRect (harg2.unread x0) (Shape.Idx.first (s := S1) (by decide))

theorem loadGlobal_eq (arg2 : Memref sig .tc .smem S3 .f32) (harg2 : arg2.IsWhole) (x0 : Vec F S3 .f32) (k : Fin 3) (h) : loadGlobal arg2 harg2 x0 k.val h = x0 (ix1 k) := by
  refine (harg2.readAt_unread x0 (Rect.unit (s := S3) ![k.val] S1.size h).toLoadRect _).trans (congrArg x0 (funext fun d => Fin.ext ?_))
  obtain rfl : d = 0 := Subsingleton.elim d 0
  show k.val + 1 * 0 = k.val
  omega

theorem loadGlobal_0 (arg2 : Memref sig .tc .smem S3 .f32) (harg2 : arg2.IsWhole) (x0 : Vec F S3 .f32) (h) : loadGlobal arg2 harg2 x0 0 h = x0 (ix1 0) := loadGlobal_eq arg2 harg2 x0 0 h
theorem loadGlobal_1 (arg2 : Memref sig .tc .smem S3 .f32) (harg2 : arg2.IsWhole) (x0 : Vec F S3 .f32) (h) : loadGlobal arg2 harg2 x0 1 h = x0 (ix1 1) := loadGlobal_eq arg2 harg2 x0 1 h
theorem loadGlobal_2 (arg2 : Memref sig .tc .smem S3 .f32) (harg2 : arg2.IsWhole) (x0 : Vec F S3 .f32) (h) : loadGlobal arg2 harg2 x0 2 h = x0 (ix1 2) := loadGlobal_eq arg2 harg2 x0 2 h

/-- A whole two-axis buffer, as a step loads it. -/
def loadAll {r l : ℕ} {e : EltTy} (a : Memref sig .tc .vmem ⟨2, ![r, l]⟩ e) (ha : a.IsWhole) (x : Vec F ⟨2, ![r, l]⟩ e) (h : ∀ d : Fin 2, ![0, 0] d + ![r, l] d ≤ ![r, l] d) : Vec F ⟨2, ![r, l]⟩ e :=
  View.readAt (Elt F) a.view (Rect.unit (s := ⟨2, ![r, l]⟩) ![0, 0] ![r, l] h).toLoadRect (ha.unread x)

/-- What a step loads from a whole buffer is what the buffer holds. -/
theorem loadAll_eq {r l : ℕ} {e : EltTy} (a : Memref sig .tc .vmem ⟨2, ![r, l]⟩ e) (ha : a.IsWhole) (x : Vec F ⟨2, ![r, l]⟩ e) (h) : loadAll a ha x h = x := by
  funext i
  refine (ha.readAt_unread x (Rect.unit (s := ⟨2, ![r, l]⟩) ![0, 0] ![r, l] h).toLoadRect i).trans (congrArg x (funext fun d => Fin.ext ?_))
  show ![0, 0] d + 1 * (i d).val = (i d).val
  fin_cases d <;> simp

/-- How a buffer's rectangle is read off the pieces stored into the buffer. -/
abbrev Reader (F : FTy → Type) (s : Shape) (e : EltTy) : Type :=
  List (View.Piece (Elt F) s e) → (B : LoadRect s) → B.shape.Idx → Elt F e

/-- The reader that takes each position from the last piece over it. -/
def lastOver {s : Shape} {e : EltTy} : Reader F s e := fun L B j => View.canon L (B.idx j)

/-- A load through a view reads each position from the last piece over it. -/
theorem readCov_eq {κ : Kind} {sp : Space} {s : Shape} {e : EltTy} (v : View sig κ sp s e) :
    (View.readCov v : Reader F s e) = lastOver :=
  funext fun L => funext fun B => View.readCov_eq_canon' v L B

/-- Sixty-four rows of weights from thirty-two rows of bytes, the low half's row first. -/
def decoded (b : Vec F S32x512 .i8) : FVec F S64x512 .bf16 := k0_pay2 b

/-- Sixty-four rows of codes times four rows of scales. -/
def weighted (w : FVec F S64x512 .bf16) (s : Fin 4 → Vec F S1x512 .f32) : FVec F S64x512 .bf16 :=
  shapeCast S64x512 (mulf w (concatenate S64x512 0 [⟨S16x512, k0_pay3 (s 0)⟩, ⟨S16x512, k0_pay3 (s 1)⟩, ⟨S16x512, k0_pay3 (s 2)⟩, ⟨S16x512, k0_pay3 (s 3)⟩]
    concatenates_S16x512_S16x512_S16x512_S16x512_S64x512_d0)) shapeCasts_S64x512_S64x512

/-- The order the groups of sixty-four rows are found in, the last stored first. -/
def rowOrder : List (Fin 48) := [47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

theorem inb_bytes (k : Fin 48) : ∀ a : Fin 2, ![k.val * 32, 0] a + S32x512.size a ≤ S1536x512.size a := by
  revert k; decide

theorem inb_weights (k : Fin 48) : ∀ a : Fin 2, ![k.val * 64, 0] a + S64x512.size a ≤ S3072x512.size a := by
  revert k; decide

theorem inb_scale (k : Fin 48) (i : Fin 4) : ∀ a : Fin 2, ![k.val * 4 + i.val, 0] a + S1x512.size a ≤ S192x512.size a := by
  revert k i; decide

/-- The weights' scales, kept once a column tile. -/
def scalesKept (x4 : Vec F S192x512 .fp8e4m3) : List (View.Piece (Elt F) S192x512 .f32) :=
  [⟨Rect.unit ![0, 0] S192x512.size inb_S192x512_S192x512_0_0, k0_pay1 x4⟩]

/-- Group `k` of sixty-four rows of weights, from its bytes and its scales. -/
def weightRows (B5 : (B : LoadRect S1536x512) → B.shape.Idx → Elt F .i8) (R16 : Reader F S192x512 .f32) (x4 : Vec F S192x512 .fp8e4m3) (k : Fin 48) : FVec F S64x512 .bf16 :=
  weighted (decoded (B5 (Rect.unit (s := S1536x512) ![k.val * 32, 0] S32x512.size (inb_bytes k)).toLoadRect))
    fun i => R16 (scalesKept x4) (Rect.unit (s := S192x512) ![k.val * 4 + i.val, 0] S1x512.size (inb_scale k i)).toLoadRect

/-- Where group `k` of the weights lies. -/
def weightRect (k : Fin 48) : Rect S3072x512 := Rect.unit (s := S3072x512) ![k.val * 64, 0] S64x512.size (inb_weights k)

/-- What the first row tile of a column tile stores of its weights. -/
def weightPieces (B5 : (B : LoadRect S1536x512) → B.shape.Idx → Elt F .i8) (R16 : Reader F S192x512 .f32) (x4 : Vec F S192x512 .fp8e4m3) : List (View.Piece (Elt F) S3072x512 .bf16) :=
  rowOrder.map fun k => ⟨weightRect k, weightRows B5 R16 x4 k⟩

/-- The weights of a column tile. -/
def weightsOf (x3 : Vec F S1536x512 .i8) (x4 : Vec F S192x512 .fp8e4m3) : Vec F S3072x512 .bf16 :=
  View.canon (weightPieces (fun B j => x3 (B.idx j)) lastOver x4)

/-- The last piece over each position, read over a whole two-axis buffer. -/
theorem lastOver_all {r l : ℕ} {e : EltTy} (L : List (View.Piece (Elt F) ⟨2, ![r, l]⟩ e)) (h : ∀ d : Fin 2, ![0, 0] d + ![r, l] d ≤ ![r, l] d) :
    (lastOver L (Rect.unit (s := ⟨2, ![r, l]⟩) ![0, 0] ![r, l] h).toLoadRect : Vec F ⟨2, ![r, l]⟩ e) = View.canon L := by
  funext i
  refine congrArg (View.canon L) (funext fun d => Fin.ext ?_)
  show ![0, 0] d + 1 * (i d).val = (i d).val
  fin_cases d <;> simp

/-- A load of the whole of a two-axis buffer reads the last piece over each position. -/
theorem readCov_all {r l : ℕ} {e : EltTy} {κ : Kind} {sp : Space} (v : View sig κ sp ⟨2, ![r, l]⟩ e) (L : List (View.Piece (Elt F) ⟨2, ![r, l]⟩ e)) (h : ∀ d : Fin 2, ![0, 0] d + ![r, l] d ≤ ![r, l] d) :
    (v.readCov L (Rect.unit (s := ⟨2, ![r, l]⟩) ![0, 0] ![r, l] h).toLoadRect : Vec F ⟨2, ![r, l]⟩ e) = View.canon L :=
  (View.readCov_eq_canon' v L _).trans (lastOver_all L h)

/-- Loads from a buffer at known contents, as a function of the rectangle loaded. -/
theorem readAt_known {sp : Space} {s : Shape} {e : EltTy} (a : Memref sig .tc sp s e) (ha : a.IsWhole) (x : Vec F s e) :
    (fun B : LoadRect s => View.readAt (Elt F) a.view B (ha.unread x)) = fun B j => x (B.idx j) :=
  funext fun B => funext fun j => ha.readAt_unread x B j

variable (R17 : Reader F S512x128 .f32) (R18 : Reader F S32x128 .f32)

theorem inb_every (j : Fin 16) : ∀ a : Fin S32x128.rank, S32x128.size a = 0 ∨ ![j.val, 0] a + ![16, 1] a * (S32x128.size a - 1) < S512x128.size a := by
  revert j; decide

/-- The groups' scales, read off the turned values. -/
def scales (L : List (View.Piece (Elt F) S512x128 .f32)) (g : F .f32) : FVec F S32x128 .f32 :=
  scaleOf (groupMax fun j => R17 L ⟨![j.val, 0], S32x128.size, ![16, 1], inb_every j⟩) g

/-- What the first half of the rows leaves in the reciprocals' buffer. -/
def recips0 (y : FVec F S256x512 .f32) (g : F .f32) : List (View.Piece (Elt F) S32x128 .f32) :=
  [⟨Rect.unit ![0, 0] S32x128.size inb_S32x128_S32x128_0_0, recipOf (scales R17 (turned0 y) g) g⟩]

/-- What both halves of the rows leave there, the second half last. -/
def recips1 (y : FVec F S256x512 .f32) (g : F .f32) : List (View.Piece (Elt F) S32x128 .f32) :=
  ⟨Rect.unit ![0, 0] S32x128.size inb_S32x128_S32x128_0_0, recipOf (scales R17 (turned1 y) g) g⟩ :: recips0 R17 y g

theorem inb_rows (b : Fin 4) (i : Fin 8) : ∀ a : Fin 2, ![b.val * 128 + i.val * 16, 0] a + S16x128.size a ≤ S512x128.size a := by
  revert b i; decide

theorem inb_row (b : Fin 4) (i : Fin 8) : ∀ a : Fin 2, ![b.val * 8 + i.val, 0] a + S1x128.size a ≤ S32x128.size a := by
  revert b i; decide

/-- Block `b` of the turned values, each group times its reciprocal. -/
def block (L : List (View.Piece (Elt F) S512x128 .f32)) (R : List (View.Piece (Elt F) S32x128 .f32)) (b : Fin 4) : FVec F S128x128 .f32 :=
  stacked fun i => scaledRows (R17 L (Rect.unit (s := S512x128) ![b.val * 128 + i.val * 16, 0] S16x128.size (inb_rows b i)).toLoadRect)
    (R18 R (Rect.unit (s := S32x128) ![b.val * 8 + i.val, 0] S1x128.size (inb_row b i)).toLoadRect)

/-- What a grid step stores of its codes, last first. -/
def codePieces (y : FVec F S256x512 .f32) (g : F .f32) : List (View.Piece (Elt F) S256x256 .i8) :=
  [⟨Rect.unit ![128, 192] S128x64.size inb_S256x256_S128x64_128_192, stored (block R17 R18 (turned1 y) (recips1 R17 y g) 3)⟩,
    ⟨Rect.unit ![128, 128] S128x64.size inb_S256x256_S128x64_128_128, stored (block R17 R18 (turned1 y) (recips1 R17 y g) 2)⟩,
    ⟨Rect.unit ![128, 64] S128x64.size inb_S256x256_S128x64_128_64, stored (block R17 R18 (turned1 y) (recips1 R17 y g) 1)⟩,
    ⟨Rect.unit ![128, 0] S128x64.size inb_S256x256_S128x64_128_0, stored (block R17 R18 (turned1 y) (recips1 R17 y g) 0)⟩,
    ⟨Rect.unit ![0, 192] S128x64.size inb_S256x256_S128x64_0_192, stored (block R17 R18 (turned0 y) (recips0 R17 y g) 3)⟩,
    ⟨Rect.unit ![0, 128] S128x64.size inb_S256x256_S128x64_0_128, stored (block R17 R18 (turned0 y) (recips0 R17 y g) 2)⟩,
    ⟨Rect.unit ![0, 64] S128x64.size inb_S256x256_S128x64_0_64, stored (block R17 R18 (turned0 y) (recips0 R17 y g) 1)⟩,
    ⟨Rect.unit ![0, 0] S128x64.size inb_S256x256_S128x64_0_0, stored (block R17 R18 (turned0 y) (recips0 R17 y g) 0)⟩]

/-- What a grid step stores of its scales, last first. -/
def scalePieces (y : FVec F S256x512 .f32) (g : F .f32) : List (View.Piece (Elt F) S1x256x32 .fp8e4m3) :=
  [⟨Rect.unit ![0, 128, 0] S1x128x32.size inb_S1x256x32_S1x128x32_0_128_0, k0_pay305 (scales R17 (turned1 y) g)⟩,
    ⟨Rect.unit ![0, 0, 0] S1x128x32.size inb_S1x256x32_S1x128x32_0_0_0, k0_pay254 (scales R17 (turned0 y) g)⟩]

/-- The codes of one grid step, from its values and the global scale. -/
def codesOf (y : FVec F S256x512 .f32) (g : F .f32) : Vec F S256x256 .i8 := View.canon (codePieces lastOver lastOver y g)

/-- The scales of one grid step. -/
def scalesOf (y : FVec F S256x512 .f32) (g : F .f32) : Vec F S1x256x32 .fp8e4m3 := View.canon (scalePieces lastOver y g)

end Cert.KernelIdeal.Main

end
-- ==== Proof.Main.Data.lean ====
/- What the main call holds at each grid point: its values, the weights it keeps, the running sum of the next hidden rows; the
   pipeline's proof data, and what one grid point leaves in its output buffers. -/
module

public import proofs.«01_k».proof.Proof.Main.Ops
public import Idealize.ShloMosaic.Lib.Writes
public import Idealize.ShloMosaic.Lib.WritesUnit
public import Idealize.ShloMosaic.Lib.Pipeline.DatRel
public import Idealize.ShloMosaic.Lib.Claim

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ)

/-! ## The values of a grid point -/

/-- The first point of the point's column tile. -/
def tileStart (n : ℕ) (hn : n < cfg0.N) : Fin cfg0.N := ⟨6 * (n / 6), by omega⟩

/-- The weights the point's column tile is multiplied with. -/
def wAt (c : Dev nD) (n : ℕ) (hn : n < cfg0.N) : Vec F S3072x512 .bf16 := weightsOf (iblk m c 3 (tileStart n hn)) (iblk m c 4 (tileStart n hn))

/-- The activations of the point, before they are rounded. -/
def act32 (c : Dev nD) (t : Fin cfg0.N) : FVec F S256x512 .f32 :=
  k0_pay205 (iblk m c 0 t (ix1 0)) (iblk m c 0 t (ix1 1)) (iblk m c 1 t) (wAt m c t.val t.isLt) (iblk m c 2 t) (iblk m c 5 t) (iblk m c 6 t)

/-- The activations of the point as they are stored. -/
def actAt (c : Dev nD) (t : Fin cfg0.N) : Vec F S256x512 .bf16 :=
  k0_pay206 (iblk m c 0 t (ix1 0)) (iblk m c 0 t (ix1 1)) (iblk m c 1 t) (wAt m c t.val t.isLt) (iblk m c 2 t) (iblk m c 5 t) (iblk m c 6 t)

/-- The point's activations over the next layer's smoothing factors: what it quantises. -/
def scaledAt (c : Dev nD) (t : Fin cfg0.N) : FVec F S256x512 .f32 := k0_pay207 (act32 m c t) (iblk m c 7 t)

/-- The codes of the point. -/
def codesAt (c : Dev nD) (t : Fin cfg0.N) : Vec F S256x256 .i8 := codesOf (scaledAt m c t) (iblk m c 0 t (ix1 2))

/-- The scales of the point. -/
def scalesAt (c : Dev nD) (t : Fin cfg0.N) : Vec F S1x256x32 .fp8e4m3 := scalesOf (scaledAt m c t) (iblk m c 0 t (ix1 2))

/-- The rows of row tile `r` of the next hidden rows. -/
def rowsOf (r : Fin 6) (x : S256x48.Idx) : S1536x48.Idx :=
  ix2 ⟨256 * r.val + (x 0).val, by have h0 : (x 0).val < 256 := (x 0).isLt; have := r.isLt; omega⟩ (x 1)

/-- The row tile of a point. -/
def tileOf (n : ℕ) : Fin 6 := ⟨n % 6, Nat.mod_lt _ (by decide)⟩

/-- The point's rows of the next hidden rows, over what the buffer held: the first column tile's product alone, a later one's
    added to what was there. -/
def newRows (c : Dev nD) (t : Fin cfg0.N) (Y : Vec F S1536x48 .f32) : Vec F S256x48 .f32 :=
  if t.val < 6 then k0_pay208 (act32 m c t) (iblk m c 7 t) (iblk m c 8 t)
  else k0_pay209 (act32 m c t) (iblk m c 7 t) (iblk m c 8 t) fun x => Y (rowsOf (tileOf t.val) x)

/-- The sum of a row tile's products up to the point. -/
def hiddenAt (c : Dev nD) : (n : ℕ) → n < cfg0.N → Vec F S256x48 .f32
  | n, hn =>
    if h : n < 6 then k0_pay208 (act32 m c ⟨n, hn⟩) (iblk m c 7 ⟨n, hn⟩) (iblk m c 8 ⟨n, hn⟩)
    else k0_pay209 (act32 m c ⟨n, hn⟩) (iblk m c 7 ⟨n, hn⟩) (iblk m c 8 ⟨n, hn⟩) (hiddenAt c (n - 6) (by omega))
  termination_by n => n
  decreasing_by omega

/-- `X` is `Y` with the point's rows replaced. -/
def Replaced (c : Dev nD) (t : Fin cfg0.N) (Y X : Vec F S1536x48 .f32) : Prop :=
  (∀ x, X (rowsOf (tileOf t.val) x) = newRows m c t Y x)
    ∧ ∀ y : S1536x48.Idx, ((y 0).val < 256 * (t.val % 6) ∨ 256 * (t.val % 6) + 256 ≤ (y 0).val) → X y = Y y

/-- What is known of the next hidden rows after a point: each row tile reached holds its running sum. -/
def Known (c : Dev nD) (t : Fin cfg0.N) (X : Vec F S1536x48 .f32) : Prop :=
  ∀ (n : ℕ) (hn : n < cfg0.N), n ≤ t.val → t.val < n + 6 → ∀ x, X (rowsOf (tileOf n) x) = hiddenAt m c n hn x

theorem rowsOf_val (r : Fin 6) (x : S256x48.Idx) : (rowsOf r x 0).val = 256 * r.val + (x 0).val := rfl

/-- One point's replacement carries what is known along. -/
theorem Known.step (c : Dev nD) (t : Fin cfg0.N) (Y X : Vec F S1536x48 .f32)
    (hY : ∀ (h : t.val ≠ 0), Known m c ⟨t.val - 1, by omega⟩ Y) (hX : Replaced m c t Y X) : Known m c t X := by
  intro n hn hle hlt x
  by_cases he : n = t.val
  · subst he
    rw [hX.1 x, hiddenAt, newRows]
    by_cases h6 : t.val < 6
    · rw [if_pos h6, dif_pos h6]
    · rw [if_neg h6, dif_neg h6]
      have h : (fun x => Y (rowsOf (tileOf t.val) x)) = hiddenAt m c (t.val - 6) (by omega) := funext fun x => by
        have e : tileOf t.val = tileOf (t.val - 6) := Fin.ext (by simp only [tileOf]; omega)
        rw [e]
        exact hY (by omega) (t.val - 6) (by omega) (by show t.val - 6 ≤ t.val - 1; omega) (by show t.val - 1 < t.val - 6 + 6; omega) x
      rw [h]
  · have hx : (x 0).val < 256 := (x 0).isLt
    rw [hX.2 _ (by
      rw [rowsOf_val]
      have hd : n % 6 ≠ t.val % 6 := by omega
      show 256 * (n % 6) + (x 0).val < 256 * (t.val % 6) ∨ 256 * (t.val % 6) + 256 ≤ 256 * (n % 6) + (x 0).val
      omega)]
    exact hY (by omega) n hn (by show n ≤ t.val - 1; omega) (by show t.val - 1 < n + 6; omega) x

end Cert.KernelIdeal.Main

end
-- ==== Proof.Main.Settle.lean ====
/- What a grid point's stores leave in its output buffers and in the weights' buffer, by name. -/
module

public import proofs.«01_k».proof.Proof.Main.Data

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ)

/-! ## The pieces cover their buffers -/

theorem cover_codes (R17 : Reader F S512x128 .f32) (R18 : Reader F S32x128 .f32) (y : FVec F S256x512 .f32) (g : F .f32) (i : S256x256.Idx) :
    ∃ p ∈ codePieces R17 R18 y g, i ∈ p.1.set :=
  View.cover_of_tiledL (codePieces R17 R18 y g) S128x64.size (by sl_kernel_rfl) i

theorem cover_scales (R17 : Reader F S512x128 .f32) (y : FVec F S256x512 .f32) (g : F .f32) (i : S1x256x32.Idx) :
    ∃ p ∈ scalePieces R17 y g, i ∈ p.1.set :=
  View.cover_of_tiledL (scalePieces R17 y g) S1x128x32.size (by sl_kernel_rfl) i

theorem cover_weights (B5 : (B : LoadRect S1536x512) → B.shape.Idx → Elt F .i8) (R16 : Reader F S192x512 .f32) (x4 : Vec F S192x512 .fp8e4m3) (i : S3072x512.Idx) :
    ∃ p ∈ weightPieces B5 R16 x4, i ∈ p.1.set :=
  View.cover_of_tiledL (weightPieces B5 R16 x4) S64x512.size (by sl_kernel_rfl) i

theorem cover_act (w : Vec F S256x512 .bf16) (i : S256x512.Idx) :
    ∃ p ∈ ([⟨Rect.unit ![0, 0] S256x512.size inb_S256x512_S256x512_0_0, w⟩] : List (View.Piece (Elt F) S256x512 .bf16)), i ∈ p.1.set :=
  View.cover_of_tiledL _ S256x512.size (by sl_kernel_rfl) i

/-! ## What the stores leave -/

/-- The activations a point stores are its output buffer's contents. -/
theorem canon_act (w : Vec F S256x512 .bf16) :
    View.canon ([⟨Rect.unit ![0, 0] S256x512.size inb_S256x512_S256x512_0_0, w⟩] : List (View.Piece (Elt F) S256x512 .bf16)) = w :=
  View.canon_cons_unit_zero (S := S256x512) (by funext d; fin_cases d <;> rfl) _ w []

/-- A store of one row tile replaces that row tile. -/
theorem replaced (c : Dev nD) (t : Fin cfg0.N) (Y : Vec F S1536x48 .f32) (v : View sig .tc .vmem S1536x48 .f32) (f : v.ty.Contents (Elt F)) (hf : v.read (Elt F) f = Y)
    (off : Fin 2 → ℕ) (ho : off = ![256 * (t.val % 6), 0]) (h : ∀ a, off a + S256x48.size a ≤ S1536x48.size a) (w : Vec F S256x48 .f32) (hw : w = newRows m c t Y) :
    Replaced m c t Y (v.read (Elt F) (v.writes (Elt F) f [⟨Rect.unit (s := S1536x48) off S256x48.size h, w⟩])) := by
  refine ⟨fun x => ?_, fun y hy => ?_⟩
  · subst hw
    exact View.read_writes_cons_unit_of_mem v f h _ [] (rowsOf (tileOf t.val) x) x ho fun a => by
      fin_cases a
      · rfl
      · exact (Nat.zero_add _).symm
  · rw [View.read_writes_cons_unit_of_not_mem v f h w [] y ho 0 hy]
    exact congrFun hf y

/-- What a point's stores leave in its four output buffers. -/
theorem settle (c : Dev nD) (t : Fin cfg0.N) (Y : Vec F S1536x48 .f32)
    (L9 : List (View.Piece (Elt F) S256x512 .bf16)) (L10 : List (View.Piece (Elt F) S1536x48 .f32)) (L11 : List (View.Piece (Elt F) S256x256 .i8)) (L12 : List (View.Piece (Elt F) S1x256x32 .fp8e4m3))
    (h9 : L9 = [⟨Rect.unit ![0, 0] S256x512.size inb_S256x512_S256x512_0_0, actAt m c t⟩])
    (h10 : ∃ (off : Fin 2 → ℕ) (_ : off = ![256 * (t.val % 6), 0]) (h : ∀ a, off a + S256x48.size a ≤ S1536x48.size a) (w : Vec F S256x48 .f32) (_ : w = newRows m c t Y),
      L10 = [⟨Rect.unit (s := S1536x48) off S256x48.size h, w⟩])
    (h11 : L11 = codePieces lastOver lastOver (scaledAt m c t) (iblk m c 0 t (ix1 2)))
    (h12 : L12 = scalePieces lastOver (scaledAt m c t) (iblk m c 0 t (ix1 2))) :
    (iprop((∃ f, (ms0_9 t).view.loc (c : Thread nD τ) ↦[(ms0_9 t).view.set]{fullShare} (ms0_9 t).view.writes (Elt F) f L9)
      ∗ ((ms0_10 t).view.loc (c : Thread nD τ) ↦[(ms0_10 t).view.set]{fullShare} (ms0_10 t).view.writes (Elt F) ((hs0_10 t).unread Y) L10)
      ∗ (∃ f, (ms0_11 t).view.loc (c : Thread nD τ) ↦[(ms0_11 t).view.set]{fullShare} (ms0_11 t).view.writes (Elt F) f L11)
      ∗ (∃ f, (ms0_12 t).view.loc (c : Thread nD τ) ↦[(ms0_12 t).view.set]{fullShare} (ms0_12 t).view.writes (Elt F) f L12)) : sProp 𝕄)
    ⊢ iprop(owns (c : Thread nD τ) (ms0_9 t) fullShare (actAt m c t) ∗ (∃ X, ⌜Replaced m c t Y X⌝ ∗ owns (c : Thread nD τ) (ms0_10 t) fullShare X)
      ∗ owns (c : Thread nD τ) (ms0_11 t) fullShare (codesAt m c t) ∗ owns (c : Thread nD τ) (ms0_12 t) fullShare (scalesAt m c t)) := by
  obtain ⟨off, ho, h, w, hw, rfl⟩ := h10
  subst h9 h11 h12
  iintro ⟨⟨%f9, H9⟩, H10, ⟨%f11, H11⟩, ⟨%f12, H12⟩⟩
  isplitl [H9]
  · unfold owns; iexists _; isplitr
    swap; · iexact H9
    ipureintro
    exact (View.read_writes_eq_canon _ f9 _ (cover_act _)).trans (canon_act _)
  isplitl [H10]
  · iexists _; isplitr
    swap
    · unfold owns; iexists _; isplitr
      swap; · iexact H10
      ipureintro; rfl
    ipureintro
    exact replaced m c t Y (ms0_10 t).view _ ((hs0_10 t).read_unread Y) off ho h w hw
  isplitl [H11]
  · unfold owns; iexists _; isplitr
    swap; · iexact H11
    ipureintro
    exact View.read_writes_eq_canon _ f11 _ (cover_codes _ _ _ _)
  · unfold owns; iexists _; isplitr
    swap; · iexact H12
    ipureintro
    exact View.read_writes_eq_canon _ f12 _ (cover_scales _ _ _)

/-- The row tile's offset, from the grid coordinates. -/
theorem row_off (t : Fin cfg0.N) : 256 * (grid0.coords t 1).val = 256 * (t.val % 6) := by
  have e1 : (grid0.coords t 1).val = t.val / 1 % 6 := Pipeline.Grid.coords_val t 1 (by decide) rfl
  rw [e1, Nat.div_one]

end Cert.KernelIdeal.Main

end
-- ==== Proof.Main.RunD.lean ====
/- The whole-body run of the main call's kernel in case D of its conditionals. -/
module

public import proofs.«01_k».proof.Proof.Main.Cases

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6000000 in
/-- The body on whole staging buffers in case D (a later column tile, a later row tile): from the inputs' contents `x0 … x8`, the
    running sum's contents `x10` and the decoded weights `xs0`, it ends with the listed pieces stored, last first: the activations
    (`L9`), the rows of the running sum (`L10`, over `x10`), the packed codes (`L11`), the group scales
    (`L12`). -/
noncomputable def kernelRun0_D (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) (xs0 : Vec F S3072x512 .bf16) :
    Σ' (L9 : List (View.Piece (Elt F) S256x512 .bf16)) (L10 : List (View.Piece (Elt F) S1536x48 .f32)) (L11 : List (View.Piece (Elt F) S256x256 .i8)), { L12 : List (View.Piece (Elt F) S1x256x32 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare x10 ∗ (∃ d, owns (c : Thread nD τ) arg13 fullShare d) ∗ (∃ d, owns (c : Thread nD τ) arg14 fullShare d) ∗ owns (c : Thread nD τ) arg15 fullShare xs0 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread x10) L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ owns (c : Thread nD τ) arg15 fullShare xs0 ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_fc1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_fc1_eq_skeleton]; unfold cc0_fc1_skel
    simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg15.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexact H10
    isplitl [H11]; · iexists _; iexact H11
    isplitl [H12]; · iexists _; iexact H12
    isplitl [HS0]
    · iexists _; isplitr; · ipureintro; exact harg15.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Main

end
-- ==== Proof.Main.RunB.lean ====
/- The whole-body run of the main call's kernel in case B of its conditionals. -/
module

public import proofs.«01_k».proof.Proof.Main.RunD

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6000000 in
/-- The body on whole staging buffers in case B (the first column tile, a later row tile): from the inputs' contents `x0 … x8`, the
    running sum's contents `x10` and the decoded weights `xs0`, it ends with the listed pieces stored, last first: the activations
    (`L9`), the rows of the running sum (`L10`, over `x10`), the packed codes (`L11`), the group scales
    (`L12`). -/
noncomputable def kernelRun0_B (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) (xs0 : Vec F S3072x512 .bf16) :
    Σ' (L9 : List (View.Piece (Elt F) S256x512 .bf16)) (L10 : List (View.Piece (Elt F) S1536x48 .f32)) (L11 : List (View.Piece (Elt F) S256x256 .i8)), { L12 : List (View.Piece (Elt F) S1x256x32 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare x10 ∗ (∃ d, owns (c : Thread nD τ) arg13 fullShare d) ∗ (∃ d, owns (c : Thread nD τ) arg14 fullShare d) ∗ owns (c : Thread nD τ) arg15 fullShare xs0 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread x10) L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ owns (c : Thread nD τ) arg15 fullShare xs0 ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_fc1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_fc1_eq_skeleton]; unfold cc0_fc1_skel
    simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg15.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexact H10
    isplitl [H11]; · iexists _; iexact H11
    isplitl [H12]; · iexists _; iexact H12
    isplitl [HS0]
    · iexists _; isplitr; · ipureintro; exact harg15.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Main

end
-- ==== Proof.Main.RunC.lean ====
/- The whole-body run of the main call's kernel in case C of its conditionals. -/
module

public import proofs.«01_k».proof.Proof.Main.RunB

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6000000 in
/-- The body on whole staging buffers in case C (a later column tile, the first row tile): from the inputs' contents `x0 … x8`, the
    running sum's contents `x10`, it ends with the listed pieces stored, last first: the activations
    (`L9`), the rows of the running sum (`L10`, over `x10`), the packed codes (`L11`), the group scales
    (`L12`), the decoded weights (`LS0`). -/
noncomputable def kernelRun0_C (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    Σ' (L9 : List (View.Piece (Elt F) S256x512 .bf16)) (L10 : List (View.Piece (Elt F) S1536x48 .f32)) (L11 : List (View.Piece (Elt F) S256x256 .i8)), Σ' (L12 : List (View.Piece (Elt F) S1x256x32 .fp8e4m3)), { LS0 : List (View.Piece (Elt F) S3072x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread x10) L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_fc1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_fc1_eq_skeleton]; unfold cc0_fc1_skel
    simp only [k0_part61_eq_skeleton, k0_part60_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexact H10
    isplitl [H11]; · iexists _; iexact H11
    isplitl [H12]; · iexists _; iexact H12
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Main

end
-- ==== Proof.Main.RunA.lean ====
/- The whole-body run of the main call's kernel in case A of its conditionals. -/
module

public import proofs.«01_k».proof.Proof.Main.RunC

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6000000 in
/-- The body on whole staging buffers in case A (the first point: first column tile, first row tile): from the inputs' contents `x0 … x8`, the
    running sum's contents `x10`, it ends with the listed pieces stored, last first: the activations
    (`L9`), the rows of the running sum (`L10`, over `x10`), the packed codes (`L11`), the group scales
    (`L12`), the decoded weights (`LS0`). -/
noncomputable def kernelRun0_A (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    Σ' (L9 : List (View.Piece (Elt F) S256x512 .bf16)) (L10 : List (View.Piece (Elt F) S1536x48 .f32)) (L11 : List (View.Piece (Elt F) S256x256 .i8)), Σ' (L12 : List (View.Piece (Elt F) S1x256x32 .fp8e4m3)), { LS0 : List (View.Piece (Elt F) S3072x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread x10) L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_fc1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_fc1_eq_skeleton]; unfold cc0_fc1_skel
    simp only [k0_part61_eq_skeleton, k0_part60_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexact H10
    isplitl [H11]; · iexists _; iexact H11
    isplitl [H12]; · iexists _; iexact H12
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Main

end
-- ==== Proof.Main.PiecesA.lean ====
/- What a grid step stores, in the quantiser's own terms: the case where it is the first column tile and the first row tile. -/
module

public import proofs.«01_k».proof.Proof.Main.RunA
public import proofs.«01_k».proof.Proof.Main.Ops

@[expose] public section

set_option maxRecDepth 16384

noncomputable section

namespace Cert.KernelIdeal.Main

open Cert.KernelIdeal Cert.KernelIdeal.Gen
open Idealize.ShloMosaic Idealize.ShloMosaic.TcCoe

variable {F : FTy → Type} [FloatOps F]

set_option maxHeartbeats 4000000 in
/-- The weights it stores. -/
theorem weights_A (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 = weightPieces (fun B j => x3 (B.idx j)) lastOver x4 := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 = weightPieces (fun B => View.readAt (Elt F) arg5.view B (harg5.unread x3)) (View.readCov arg16.view) (loadAll arg6 harg6 x4 inb_S192x512_S192x512_0_0) := by
    with_unfolding_all rfl
  rw [e, readCov_eq, loadAll_eq, readAt_known]

/-- The weights it then reads. -/
theorem weights_read_A (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    (arg15.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 (Rect.unit ![0, 0] S3072x512.size inb_S3072x512_S3072x512_0_0).toLoadRect : Vec F S3072x512 .bf16) = weightsOf x3 x4 := by
  rw [weights_A]
  exact readCov_all arg15.view _ _

/-- The activations it stores. -/
theorem act_A (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).1 = [⟨Rect.unit ![0, 0] S256x512.size inb_S256x512_S256x512_0_0, k0_pay206 (x0 (ix1 0)) (x0 (ix1 1)) x1 (weightsOf x3 x4) x2 x5 x6⟩] := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).1 = [⟨Rect.unit ![0, 0] S256x512.size inb_S256x512_S256x512_0_0, k0_pay206 (loadGlobal arg2 harg2 x0 0 inb_S3_S1_0) (loadGlobal arg2 harg2 x0 1 inb_S3_S1_1) (loadAll arg3 harg3 x1 inb_S256x3072_S256x3072_0_0) (arg15.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 (Rect.unit ![0, 0] S3072x512.size inb_S3072x512_S3072x512_0_0).toLoadRect) (loadAll arg4 harg4 x2 inb_S256x48_S256x48_0_0) (loadAll arg7 harg7 x5 inb_S48x512_S48x512_0_0) (loadAll arg8 harg8 x6 inb_S1x512_S1x512_0_0)⟩] := rfl
  rw [e, weights_read_A]; simp only [loadAll_eq, loadGlobal_0, loadGlobal_1]

/-- The codes it stores. -/
theorem codes_A (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.1 = codePieces lastOver lastOver (k0_pay207 (k0_pay205 (x0 (ix1 0)) (x0 (ix1 1)) x1 (weightsOf x3 x4) x2 x5 x6) x7) (x0 (ix1 2)) := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.1 = codePieces (View.readCov arg17.view) (View.readCov arg18.view) (k0_pay207 (k0_pay205 (loadGlobal arg2 harg2 x0 0 inb_S3_S1_0) (loadGlobal arg2 harg2 x0 1 inb_S3_S1_1) (loadAll arg3 harg3 x1 inb_S256x3072_S256x3072_0_0) (arg15.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 (Rect.unit ![0, 0] S3072x512.size inb_S3072x512_S3072x512_0_0).toLoadRect) (loadAll arg4 harg4 x2 inb_S256x48_S256x48_0_0) (loadAll arg7 harg7 x5 inb_S48x512_S48x512_0_0) (loadAll arg8 harg8 x6 inb_S1x512_S1x512_0_0)) (loadAll arg9 harg9 x7 inb_S1x512_S1x512_0_0)) (loadGlobal arg2 harg2 x0 2 inb_S3_S1_2) := rfl
  rw [e, weights_read_A, readCov_eq arg17.view, readCov_eq arg18.view]; simp only [loadGlobal_2, loadAll_eq, loadGlobal_0, loadGlobal_1]

/-- The scales it stores. -/
theorem scales_A (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.1 = scalePieces lastOver (k0_pay207 (k0_pay205 (x0 (ix1 0)) (x0 (ix1 1)) x1 (weightsOf x3 x4) x2 x5 x6) x7) (x0 (ix1 2)) := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.1 = scalePieces (View.readCov arg17.view) (k0_pay207 (k0_pay205 (loadGlobal arg2 harg2 x0 0 inb_S3_S1_0) (loadGlobal arg2 harg2 x0 1 inb_S3_S1_1) (loadAll arg3 harg3 x1 inb_S256x3072_S256x3072_0_0) (arg15.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 (Rect.unit ![0, 0] S3072x512.size inb_S3072x512_S3072x512_0_0).toLoadRect) (loadAll arg4 harg4 x2 inb_S256x48_S256x48_0_0) (loadAll arg7 harg7 x5 inb_S48x512_S48x512_0_0) (loadAll arg8 harg8 x6 inb_S1x512_S1x512_0_0)) (loadAll arg9 harg9 x7 inb_S1x512_S1x512_0_0)) (loadGlobal arg2 harg2 x0 2 inb_S3_S1_2) := rfl
  rw [e, weights_read_A, readCov_eq arg17.view]; simp only [loadGlobal_2, loadAll_eq, loadGlobal_0, loadGlobal_1]

/-- What it stores of the next hidden rows. -/
theorem hidden_A (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    ∃ h, (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.1 = [⟨Rect.unit (s := S1536x48) (k0_off1 i) S256x48.size h, k0_pay208 (k0_pay205 (x0 (ix1 0)) (x0 (ix1 1)) x1 (weightsOf x3 x4) x2 x5 x6) x7 x8⟩] := by
  have e : ∃ h, (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.1 = [⟨Rect.unit (s := S1536x48) (k0_off1 i) S256x48.size h, k0_pay208 (k0_pay205 (loadGlobal arg2 harg2 x0 0 inb_S3_S1_0) (loadGlobal arg2 harg2 x0 1 inb_S3_S1_1) (loadAll arg3 harg3 x1 inb_S256x3072_S256x3072_0_0) (arg15.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 (Rect.unit ![0, 0] S3072x512.size inb_S3072x512_S3072x512_0_0).toLoadRect) (loadAll arg4 harg4 x2 inb_S256x48_S256x48_0_0) (loadAll arg7 harg7 x5 inb_S48x512_S48x512_0_0) (loadAll arg8 harg8 x6 inb_S1x512_S1x512_0_0)) (loadAll arg9 harg9 x7 inb_S1x512_S1x512_0_0) (loadAll arg10 harg10 x8 inb_S512x48_S512x48_0_0)⟩] := ⟨_, rfl⟩
  obtain ⟨h, e⟩ := e
  refine ⟨h, e.trans ?_⟩
  rw [weights_read_A]
  simp only [loadAll_eq, loadGlobal_0, loadGlobal_1]

end Cert.KernelIdeal.Main

end
-- ==== Proof.Main.PiecesB.lean ====
/- What a grid step stores, in the quantiser's own terms: the case where it is the first column tile and a later row tile. -/
module

public import proofs.«01_k».proof.Proof.Main.RunB
public import proofs.«01_k».proof.Proof.Main.Ops

@[expose] public section

set_option maxRecDepth 16384

noncomputable section

namespace Cert.KernelIdeal.Main

open Cert.KernelIdeal Cert.KernelIdeal.Gen
open Idealize.ShloMosaic Idealize.ShloMosaic.TcCoe

variable {F : FTy → Type} [FloatOps F]

/-- The activations it stores. -/
theorem act_B (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) (xs0 : Vec F S3072x512 .bf16) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).1 = [⟨Rect.unit ![0, 0] S256x512.size inb_S256x512_S256x512_0_0, k0_pay206 (x0 (ix1 0)) (x0 (ix1 1)) x1 xs0 x2 x5 x6⟩] := by
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).1 = [⟨Rect.unit ![0, 0] S256x512.size inb_S256x512_S256x512_0_0, k0_pay206 (loadGlobal arg2 harg2 x0 0 inb_S3_S1_0) (loadGlobal arg2 harg2 x0 1 inb_S3_S1_1) (loadAll arg3 harg3 x1 inb_S256x3072_S256x3072_0_0) (loadAll arg15 harg15 xs0 inb_S3072x512_S3072x512_0_0) (loadAll arg4 harg4 x2 inb_S256x48_S256x48_0_0) (loadAll arg7 harg7 x5 inb_S48x512_S48x512_0_0) (loadAll arg8 harg8 x6 inb_S1x512_S1x512_0_0)⟩] := rfl
  rw [e]; simp only [loadAll_eq, loadGlobal_0, loadGlobal_1]

/-- The codes it stores. -/
theorem codes_B (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) (xs0 : Vec F S3072x512 .bf16) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).2.2.1 = codePieces lastOver lastOver (k0_pay207 (k0_pay205 (x0 (ix1 0)) (x0 (ix1 1)) x1 xs0 x2 x5 x6) x7) (x0 (ix1 2)) := by
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).2.2.1 = codePieces (View.readCov arg17.view) (View.readCov arg18.view) (k0_pay207 (k0_pay205 (loadGlobal arg2 harg2 x0 0 inb_S3_S1_0) (loadGlobal arg2 harg2 x0 1 inb_S3_S1_1) (loadAll arg3 harg3 x1 inb_S256x3072_S256x3072_0_0) (loadAll arg15 harg15 xs0 inb_S3072x512_S3072x512_0_0) (loadAll arg4 harg4 x2 inb_S256x48_S256x48_0_0) (loadAll arg7 harg7 x5 inb_S48x512_S48x512_0_0) (loadAll arg8 harg8 x6 inb_S1x512_S1x512_0_0)) (loadAll arg9 harg9 x7 inb_S1x512_S1x512_0_0)) (loadGlobal arg2 harg2 x0 2 inb_S3_S1_2) := rfl
  rw [e, readCov_eq arg17.view, readCov_eq arg18.view]; simp only [loadGlobal_2, loadAll_eq, loadGlobal_0, loadGlobal_1]

/-- The scales it stores. -/
theorem scales_B (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) (xs0 : Vec F S3072x512 .bf16) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).2.2.2.1 = scalePieces lastOver (k0_pay207 (k0_pay205 (x0 (ix1 0)) (x0 (ix1 1)) x1 xs0 x2 x5 x6) x7) (x0 (ix1 2)) := by
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).2.2.2.1 = scalePieces (View.readCov arg17.view) (k0_pay207 (k0_pay205 (loadGlobal arg2 harg2 x0 0 inb_S3_S1_0) (loadGlobal arg2 harg2 x0 1 inb_S3_S1_1) (loadAll arg3 harg3 x1 inb_S256x3072_S256x3072_0_0) (loadAll arg15 harg15 xs0 inb_S3072x512_S3072x512_0_0) (loadAll arg4 harg4 x2 inb_S256x48_S256x48_0_0) (loadAll arg7 harg7 x5 inb_S48x512_S48x512_0_0) (loadAll arg8 harg8 x6 inb_S1x512_S1x512_0_0)) (loadAll arg9 harg9 x7 inb_S1x512_S1x512_0_0)) (loadGlobal arg2 harg2 x0 2 inb_S3_S1_2) := rfl
  rw [e, readCov_eq arg17.view]; simp only [loadGlobal_2, loadAll_eq, loadGlobal_0, loadGlobal_1]

/-- What it stores of the next hidden rows. -/
theorem hidden_B (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : cond0_1 i) (hc2 : ¬cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) (xs0 : Vec F S3072x512 .bf16) :
    ∃ h, (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).2.1 = [⟨Rect.unit (s := S1536x48) (k0_off1 i) S256x48.size h, k0_pay208 (k0_pay205 (x0 (ix1 0)) (x0 (ix1 1)) x1 xs0 x2 x5 x6) x7 x8⟩] := by
  have e : ∃ h, (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).2.1 = [⟨Rect.unit (s := S1536x48) (k0_off1 i) S256x48.size h, k0_pay208 (k0_pay205 (loadGlobal arg2 harg2 x0 0 inb_S3_S1_0) (loadGlobal arg2 harg2 x0 1 inb_S3_S1_1) (loadAll arg3 harg3 x1 inb_S256x3072_S256x3072_0_0) (loadAll arg15 harg15 xs0 inb_S3072x512_S3072x512_0_0) (loadAll arg4 harg4 x2 inb_S256x48_S256x48_0_0) (loadAll arg7 harg7 x5 inb_S48x512_S48x512_0_0) (loadAll arg8 harg8 x6 inb_S1x512_S1x512_0_0)) (loadAll arg9 harg9 x7 inb_S1x512_S1x512_0_0) (loadAll arg10 harg10 x8 inb_S512x48_S512x48_0_0)⟩] := ⟨_, rfl⟩
  obtain ⟨h, e⟩ := e
  refine ⟨h, e.trans ?_⟩
  simp only [loadAll_eq, loadGlobal_0, loadGlobal_1]

end Cert.KernelIdeal.Main

end
-- ==== Proof.Main.PiecesC.lean ====
/- What a grid step stores, in the quantiser's own terms: the case where it is a later column tile and the first row tile. -/
module

public import proofs.«01_k».proof.Proof.Main.RunC
public import proofs.«01_k».proof.Proof.Main.Ops

@[expose] public section

set_option maxRecDepth 16384

noncomputable section

namespace Cert.KernelIdeal.Main

open Cert.KernelIdeal Cert.KernelIdeal.Gen
open Idealize.ShloMosaic Idealize.ShloMosaic.TcCoe

variable {F : FTy → Type} [FloatOps F]

set_option maxHeartbeats 4000000 in
/-- The weights it stores. -/
theorem weights_C (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 = weightPieces (fun B j => x3 (B.idx j)) lastOver x4 := by
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 = weightPieces (fun B => View.readAt (Elt F) arg5.view B (harg5.unread x3)) (View.readCov arg16.view) (loadAll arg6 harg6 x4 inb_S192x512_S192x512_0_0) := by
    with_unfolding_all rfl
  rw [e, readCov_eq, loadAll_eq, readAt_known]

/-- The weights it then reads. -/
theorem weights_read_C (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    (arg15.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 (Rect.unit ![0, 0] S3072x512.size inb_S3072x512_S3072x512_0_0).toLoadRect : Vec F S3072x512 .bf16) = weightsOf x3 x4 := by
  rw [weights_C]
  exact readCov_all arg15.view _ _

/-- The activations it stores. -/
theorem act_C (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).1 = [⟨Rect.unit ![0, 0] S256x512.size inb_S256x512_S256x512_0_0, k0_pay206 (x0 (ix1 0)) (x0 (ix1 1)) x1 (weightsOf x3 x4) x2 x5 x6⟩] := by
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).1 = [⟨Rect.unit ![0, 0] S256x512.size inb_S256x512_S256x512_0_0, k0_pay206 (loadGlobal arg2 harg2 x0 0 inb_S3_S1_0) (loadGlobal arg2 harg2 x0 1 inb_S3_S1_1) (loadAll arg3 harg3 x1 inb_S256x3072_S256x3072_0_0) (arg15.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 (Rect.unit ![0, 0] S3072x512.size inb_S3072x512_S3072x512_0_0).toLoadRect) (loadAll arg4 harg4 x2 inb_S256x48_S256x48_0_0) (loadAll arg7 harg7 x5 inb_S48x512_S48x512_0_0) (loadAll arg8 harg8 x6 inb_S1x512_S1x512_0_0)⟩] := rfl
  rw [e, weights_read_C]; simp only [loadAll_eq, loadGlobal_0, loadGlobal_1]

/-- The codes it stores. -/
theorem codes_C (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.1 = codePieces lastOver lastOver (k0_pay207 (k0_pay205 (x0 (ix1 0)) (x0 (ix1 1)) x1 (weightsOf x3 x4) x2 x5 x6) x7) (x0 (ix1 2)) := by
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.1 = codePieces (View.readCov arg17.view) (View.readCov arg18.view) (k0_pay207 (k0_pay205 (loadGlobal arg2 harg2 x0 0 inb_S3_S1_0) (loadGlobal arg2 harg2 x0 1 inb_S3_S1_1) (loadAll arg3 harg3 x1 inb_S256x3072_S256x3072_0_0) (arg15.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 (Rect.unit ![0, 0] S3072x512.size inb_S3072x512_S3072x512_0_0).toLoadRect) (loadAll arg4 harg4 x2 inb_S256x48_S256x48_0_0) (loadAll arg7 harg7 x5 inb_S48x512_S48x512_0_0) (loadAll arg8 harg8 x6 inb_S1x512_S1x512_0_0)) (loadAll arg9 harg9 x7 inb_S1x512_S1x512_0_0)) (loadGlobal arg2 harg2 x0 2 inb_S3_S1_2) := rfl
  rw [e, weights_read_C, readCov_eq arg17.view, readCov_eq arg18.view]; simp only [loadGlobal_2, loadAll_eq, loadGlobal_0, loadGlobal_1]

/-- The scales it stores. -/
theorem scales_C (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.1 = scalePieces lastOver (k0_pay207 (k0_pay205 (x0 (ix1 0)) (x0 (ix1 1)) x1 (weightsOf x3 x4) x2 x5 x6) x7) (x0 (ix1 2)) := by
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.1 = scalePieces (View.readCov arg17.view) (k0_pay207 (k0_pay205 (loadGlobal arg2 harg2 x0 0 inb_S3_S1_0) (loadGlobal arg2 harg2 x0 1 inb_S3_S1_1) (loadAll arg3 harg3 x1 inb_S256x3072_S256x3072_0_0) (arg15.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 (Rect.unit ![0, 0] S3072x512.size inb_S3072x512_S3072x512_0_0).toLoadRect) (loadAll arg4 harg4 x2 inb_S256x48_S256x48_0_0) (loadAll arg7 harg7 x5 inb_S48x512_S48x512_0_0) (loadAll arg8 harg8 x6 inb_S1x512_S1x512_0_0)) (loadAll arg9 harg9 x7 inb_S1x512_S1x512_0_0)) (loadGlobal arg2 harg2 x0 2 inb_S3_S1_2) := rfl
  rw [e, weights_read_C, readCov_eq arg17.view]; simp only [loadGlobal_2, loadAll_eq, loadGlobal_0, loadGlobal_1]

/-- What it stores of the next hidden rows: what it loads of them, and this column tile's part. -/
theorem hidden_C (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) :
    ∃ h, (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.1 = [⟨Rect.unit (s := S1536x48) (k0_off2 i) S256x48.size h, k0_pay209 (k0_pay205 (x0 (ix1 0)) (x0 (ix1 1)) x1 (weightsOf x3 x4) x2 x5 x6) x7 x8
      (fun j => x10 ((Rect.unit (s := S1536x48) (k0_off2 i) S256x48.size h).toLoadRect.idx j))⟩] := by
  have e : ∃ h, (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.1 = [⟨Rect.unit (s := S1536x48) (k0_off2 i) S256x48.size h, k0_pay209 (k0_pay205 (loadGlobal arg2 harg2 x0 0 inb_S3_S1_0) (loadGlobal arg2 harg2 x0 1 inb_S3_S1_1) (loadAll arg3 harg3 x1 inb_S256x3072_S256x3072_0_0) (arg15.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10).2.2.2.2.1 (Rect.unit ![0, 0] S3072x512.size inb_S3072x512_S3072x512_0_0).toLoadRect) (loadAll arg4 harg4 x2 inb_S256x48_S256x48_0_0) (loadAll arg7 harg7 x5 inb_S48x512_S48x512_0_0) (loadAll arg8 harg8 x6 inb_S1x512_S1x512_0_0)) (loadAll arg9 harg9 x7 inb_S1x512_S1x512_0_0) (loadAll arg10 harg10 x8 inb_S512x48_S512x48_0_0)
      (View.readAt (Elt F) arg12.view (Rect.unit (s := S1536x48) (k0_off2 i) S256x48.size h).toLoadRect (harg12.unread x10))⟩] := ⟨_, rfl⟩
  obtain ⟨h, e⟩ := e
  refine ⟨h, e.trans ?_⟩
  rw [weights_read_C]
  rw [show View.readAt (Elt F) arg12.view (Rect.unit (s := S1536x48) (k0_off2 i) S256x48.size h).toLoadRect (harg12.unread x10) = _ from
    funext fun j => harg12.readAt_unread x10 _ j]
  simp only [loadAll_eq, loadGlobal_0, loadGlobal_1]
  rfl

end Cert.KernelIdeal.Main

end
-- ==== Proof.Main.PiecesD.lean ====
/- What a grid step stores, in the quantiser's own terms: the case where it is a later column tile and a later row tile. -/
module

public import proofs.«01_k».proof.Proof.Main.RunD
public import proofs.«01_k».proof.Proof.Main.Ops

@[expose] public section

set_option maxRecDepth 16384

noncomputable section

namespace Cert.KernelIdeal.Main

open Cert.KernelIdeal Cert.KernelIdeal.Gen
open Idealize.ShloMosaic Idealize.ShloMosaic.TcCoe

variable {F : FTy → Type} [FloatOps F]

/-- The activations it stores. -/
theorem act_D (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) (xs0 : Vec F S3072x512 .bf16) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).1 = [⟨Rect.unit ![0, 0] S256x512.size inb_S256x512_S256x512_0_0, k0_pay206 (x0 (ix1 0)) (x0 (ix1 1)) x1 xs0 x2 x5 x6⟩] := by
  have e : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).1 = [⟨Rect.unit ![0, 0] S256x512.size inb_S256x512_S256x512_0_0, k0_pay206 (loadGlobal arg2 harg2 x0 0 inb_S3_S1_0) (loadGlobal arg2 harg2 x0 1 inb_S3_S1_1) (loadAll arg3 harg3 x1 inb_S256x3072_S256x3072_0_0) (loadAll arg15 harg15 xs0 inb_S3072x512_S3072x512_0_0) (loadAll arg4 harg4 x2 inb_S256x48_S256x48_0_0) (loadAll arg7 harg7 x5 inb_S48x512_S48x512_0_0) (loadAll arg8 harg8 x6 inb_S1x512_S1x512_0_0)⟩] := rfl
  rw [e]; simp only [loadAll_eq, loadGlobal_0, loadGlobal_1]

/-- The codes it stores. -/
theorem codes_D (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) (xs0 : Vec F S3072x512 .bf16) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).2.2.1 = codePieces lastOver lastOver (k0_pay207 (k0_pay205 (x0 (ix1 0)) (x0 (ix1 1)) x1 xs0 x2 x5 x6) x7) (x0 (ix1 2)) := by
  have e : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).2.2.1 = codePieces (View.readCov arg17.view) (View.readCov arg18.view) (k0_pay207 (k0_pay205 (loadGlobal arg2 harg2 x0 0 inb_S3_S1_0) (loadGlobal arg2 harg2 x0 1 inb_S3_S1_1) (loadAll arg3 harg3 x1 inb_S256x3072_S256x3072_0_0) (loadAll arg15 harg15 xs0 inb_S3072x512_S3072x512_0_0) (loadAll arg4 harg4 x2 inb_S256x48_S256x48_0_0) (loadAll arg7 harg7 x5 inb_S48x512_S48x512_0_0) (loadAll arg8 harg8 x6 inb_S1x512_S1x512_0_0)) (loadAll arg9 harg9 x7 inb_S1x512_S1x512_0_0)) (loadGlobal arg2 harg2 x0 2 inb_S3_S1_2) := rfl
  rw [e, readCov_eq arg17.view, readCov_eq arg18.view]; simp only [loadGlobal_2, loadAll_eq, loadGlobal_0, loadGlobal_1]

/-- The scales it stores. -/
theorem scales_D (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) (xs0 : Vec F S3072x512 .bf16) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).2.2.2.1 = scalePieces lastOver (k0_pay207 (k0_pay205 (x0 (ix1 0)) (x0 (ix1 1)) x1 xs0 x2 x5 x6) x7) (x0 (ix1 2)) := by
  have e : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).2.2.2.1 = scalePieces (View.readCov arg17.view) (k0_pay207 (k0_pay205 (loadGlobal arg2 harg2 x0 0 inb_S3_S1_0) (loadGlobal arg2 harg2 x0 1 inb_S3_S1_1) (loadAll arg3 harg3 x1 inb_S256x3072_S256x3072_0_0) (loadAll arg15 harg15 xs0 inb_S3072x512_S3072x512_0_0) (loadAll arg4 harg4 x2 inb_S256x48_S256x48_0_0) (loadAll arg7 harg7 x5 inb_S48x512_S48x512_0_0) (loadAll arg8 harg8 x6 inb_S1x512_S1x512_0_0)) (loadAll arg9 harg9 x7 inb_S1x512_S1x512_0_0)) (loadGlobal arg2 harg2 x0 2 inb_S3_S1_2) := rfl
  rw [e, readCov_eq arg17.view]; simp only [loadGlobal_2, loadAll_eq, loadGlobal_0, loadGlobal_1]

/-- What it stores of the next hidden rows: what it loads of them, and this column tile's part. -/
theorem hidden_D (c : Dev nD) (i : grid0.Coords) (arg2 : Memref sig .tc .smem S3 .f32) (harg2 : arg2.IsWhole) (arg3 : Memref sig .tc .vmem S256x3072 .bf16) (harg3 : arg3.IsWhole) (arg4 : Memref sig .tc .vmem S256x48 .bf16) (harg4 : arg4.IsWhole) (arg5 : Memref sig .tc .vmem S1536x512 .i8) (harg5 : arg5.IsWhole) (arg6 : Memref sig .tc .vmem S192x512 .fp8e4m3) (harg6 : arg6.IsWhole) (arg7 : Memref sig .tc .vmem S48x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x48 .bf16) (harg10 : arg10.IsWhole) (arg11 : Memref sig .tc .vmem S256x512 .bf16) (harg11 : arg11.IsWhole) (arg12 : Memref sig .tc .vmem S1536x48 .f32) (harg12 : arg12.IsWhole) (arg13 : Memref sig .tc .vmem S256x256 .i8) (harg13 : arg13.IsWhole) (arg14 : Memref sig .tc .vmem S1x256x32 .fp8e4m3) (harg14 : arg14.IsWhole) (arg15 : Memref sig .tc .vmem S3072x512 .bf16) (harg15 : arg15.IsWhole) (arg16 : Memref sig .tc .vmem S192x512 .f32) (harg16 : arg16.IsWhole) (arg17 : Memref sig .tc .vmem S512x128 .f32) (harg17 : arg17.IsWhole) (arg18 : Memref sig .tc .vmem S32x128 .f32) (harg18 : arg18.IsWhole) (hc0 : ¬cond0_0 i) (hc1 : ¬cond0_1 i) (hc2 : cond0_2 i)
    (x0 : Vec F S3 .f32) (x1 : Vec F S256x3072 .bf16) (x2 : Vec F S256x48 .bf16) (x3 : Vec F S1536x512 .i8) (x4 : Vec F S192x512 .fp8e4m3) (x5 : Vec F S48x512 .bf16) (x6 : Vec F S1x512 .f32) (x7 : Vec F S1x512 .f32) (x8 : Vec F S512x48 .bf16) (x10 : Vec F S1536x48 .f32) (xs0 : Vec F S3072x512 .bf16) :
    ∃ h, (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).2.1 = [⟨Rect.unit (s := S1536x48) (k0_off2 i) S256x48.size h, k0_pay209 (k0_pay205 (x0 (ix1 0)) (x0 (ix1 1)) x1 xs0 x2 x5 x6) x7 x8
      (fun j => x10 ((Rect.unit (s := S1536x48) (k0_off2 i) S256x48.size h).toLoadRect.idx j))⟩] := by
  have e : ∃ h, (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x10 xs0).2.1 = [⟨Rect.unit (s := S1536x48) (k0_off2 i) S256x48.size h, k0_pay209 (k0_pay205 (loadGlobal arg2 harg2 x0 0 inb_S3_S1_0) (loadGlobal arg2 harg2 x0 1 inb_S3_S1_1) (loadAll arg3 harg3 x1 inb_S256x3072_S256x3072_0_0) (loadAll arg15 harg15 xs0 inb_S3072x512_S3072x512_0_0) (loadAll arg4 harg4 x2 inb_S256x48_S256x48_0_0) (loadAll arg7 harg7 x5 inb_S48x512_S48x512_0_0) (loadAll arg8 harg8 x6 inb_S1x512_S1x512_0_0)) (loadAll arg9 harg9 x7 inb_S1x512_S1x512_0_0) (loadAll arg10 harg10 x8 inb_S512x48_S512x48_0_0)
      (View.readAt (Elt F) arg12.view (Rect.unit (s := S1536x48) (k0_off2 i) S256x48.size h).toLoadRect (harg12.unread x10))⟩] := ⟨_, rfl⟩
  obtain ⟨h, e⟩ := e
  refine ⟨h, e.trans ?_⟩
  rw [show View.readAt (Elt F) arg12.view (Rect.unit (s := S1536x48) (k0_off2 i) S256x48.size h).toLoadRect (harg12.unread x10) = _ from
    funext fun j => harg12.readAt_unread x10 _ j]
  simp only [loadAll_eq, loadGlobal_0, loadGlobal_1]
  rfl

end Cert.KernelIdeal.Main

end
-- ==== Proof.Main.Step.lean ====
/- The kernel body at a grid point: from the buffers at their blocks, the next hidden rows at anything and, past the first row tile,
   the kept weights, to the named contents of everything it stores. -/
module

public import proofs.«01_k».proof.Proof.Main.Settle
public import proofs.«01_k».proof.Proof.Main.PiecesA
public import proofs.«01_k».proof.Proof.Main.PiecesB
public import proofs.«01_k».proof.Proof.Main.PiecesC
public import proofs.«01_k».proof.Proof.Main.PiecesD

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ)

theorem tileStart_eq (t : Fin cfg0.N) (h0 : t.val % 6 = 0) : tileStart t.val t.isLt = t := Fin.ext (by show 6 * (t.val / 6) = t.val; omega)

/-- The rows a step loads of the next hidden rows are its row tile's. -/
theorem rows_idx (t : Fin cfg0.N) (off : Fin 2 → ℕ) (ho : off = ![256 * (t.val % 6), 0]) (h : ∀ a, off a + S256x48.size a ≤ S1536x48.size a) (j : S256x48.Idx) :
    (Rect.unit (s := S1536x48) off S256x48.size h).toLoadRect.idx j = rowsOf (tileOf t.val) j := by
  subst ho
  funext a
  refine Fin.ext ?_
  fin_cases a
  · show 256 * (t.val % 6) + 1 * (j 0).val = 256 * (t.val % 6) + (j 0).val
    omega
  · show 0 + 1 * (j 1).val = (j 1).val
    omega

set_option maxHeartbeats 4000000 in
/-- A point of a later row tile: the weights are those its column tile's first point kept. -/
theorem step_late (c : Dev nD) (t : Fin cfg0.N) (h0 : ¬t.val % 6 = 0) (Y : Vec F S1536x48 .f32) (K : PUnit → sProp 𝕄) :
    (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t)
      ∗ (∃ d, owns (c : Thread nD τ) (ms0_9 t) fullShare d) ∗ owns (c : Thread nD τ) (ms0_10 t) fullShare Y ∗ (∃ d, owns (c : Thread nD τ) (ms0_11 t) fullShare d) ∗ (∃ d, owns (c : Thread nD τ) (ms0_12 t) fullShare d)
      ∗ owns (c : Thread nD τ) scM0_0 fullShare (wAt m c t.val t.isLt) ∗ (∃ d, owns (c : Thread nD τ) scM0_1 fullShare d) ∗ (∃ d, owns (c : Thread nD τ) scM0_2 fullShare d) ∗ (∃ d, owns (c : Thread nD τ) scM0_3 fullShare d)
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t)
          ∗ iprop(owns (c : Thread nD τ) (ms0_9 t) fullShare (actAt m c t) ∗ (∃ X, ⌜Replaced m c t Y X⌝ ∗ owns (c : Thread nD τ) (ms0_10 t) fullShare X)
            ∗ owns (c : Thread nD τ) (ms0_11 t) fullShare (codesAt m c t) ∗ owns (c : Thread nD τ) (ms0_12 t) fullShare (scalesAt m c t))
          ∗ owns (c : Thread nD τ) scM0_0 fullShare (wAt m c t.val t.isLt) ∗ (∃ d, owns (c : Thread nD τ) scM0_1 fullShare d) ∗ (∃ d, owns (c : Thread nD τ) scM0_2 fullShare d) ∗ (∃ d, owns (c : Thread nD τ) scM0_3 fullShare d)) -∗ K ⟨⟩)) : sProp 𝕄)
    ⊢ wp frame (wpE (defs₀ (F := F)) Variants.none c none) Set.univ (bodyAt0 t) K := by
  by_cases h1 : t.val < 6
  · obtain ⟨h, e⟩ := hidden_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y (wAt m c t.val t.isLt)
    have h10 : ∃ (off : Fin 2 → ℕ) (_ : off = ![256 * (t.val % 6), 0]) (h : ∀ a, off a + S256x48.size a ≤ S1536x48.size a) (w : Vec F S256x48 .f32) (_ : w = newRows m c t Y),
        (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y (wAt m c t.val t.isLt)).2.1 = [⟨Rect.unit (s := S1536x48) off S256x48.size h, w⟩] :=
      ⟨k0_off1 (grid0.coords t), by rw [k0_off1_eq, row_off], h, _, by rw [newRows, if_pos h1]; rfl, e⟩
    iintro ⟨H0, H1, H2, H3, H4, H5, H6, H7, H8, H9, H10, H11, H12, HS0, HS1, HS2, HS3, Hk⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y (wAt m c t.val t.isLt)).2.2.2.2 Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9 H10 H11 H12]
    · iapply (settle m c t Y _ _ _ _ (act_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y (wAt m c t.val t.isLt)) h10 (codes_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y (wAt m c t.val t.isLt)) (scales_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y (wAt m c t.val t.isLt)))
      isplitl [H9]; · iexact H9
      isplitl [H10]; · iexact H10
      isplitl [H11]; · iexact H11
      iexact H12
    isplitl [HS0]; · iexact HS0
    isplitl [HS1]; · iexact HS1
    isplitl [HS2]; · iexact HS2
    iexact HS3
  · obtain ⟨h, e⟩ := hidden_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y (wAt m c t.val t.isLt)
    have h10 : ∃ (off : Fin 2 → ℕ) (_ : off = ![256 * (t.val % 6), 0]) (h : ∀ a, off a + S256x48.size a ≤ S1536x48.size a) (w : Vec F S256x48 .f32) (_ : w = newRows m c t Y),
        (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y (wAt m c t.val t.isLt)).2.1 = [⟨Rect.unit (s := S1536x48) off S256x48.size h, w⟩] :=
      ⟨k0_off2 (grid0.coords t), by rw [k0_off2_eq, row_off], h, _, by rw [newRows, if_neg h1]; exact congrArg _ (funext fun j => congrArg Y (rows_idx t _ (by rw [k0_off2_eq, row_off]) h j)), e⟩
    iintro ⟨H0, H1, H2, H3, H4, H5, H6, H7, H8, H9, H10, H11, H12, HS0, HS1, HS2, HS3, Hk⟩
    iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y (wAt m c t.val t.isLt)).2.2.2.2 Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9 H10 H11 H12]
    · iapply (settle m c t Y _ _ _ _ (act_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y (wAt m c t.val t.isLt)) h10 (codes_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y (wAt m c t.val t.isLt)) (scales_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y (wAt m c t.val t.isLt)))
      isplitl [H9]; · iexact H9
      isplitl [H10]; · iexact H10
      isplitl [H11]; · iexact H11
      iexact H12
    isplitl [HS0]; · iexact HS0
    isplitl [HS1]; · iexact HS1
    isplitl [HS2]; · iexact HS2
    iexact HS3

set_option maxHeartbeats 4000000 in
/-- A point of the first row tile: it keeps its column tile's weights. -/
theorem step_first (c : Dev nD) (t : Fin cfg0.N) (h0 : t.val % 6 = 0) (Y : Vec F S1536x48 .f32) (K : PUnit → sProp 𝕄) :
    (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t)
      ∗ (∃ d, owns (c : Thread nD τ) (ms0_9 t) fullShare d) ∗ owns (c : Thread nD τ) (ms0_10 t) fullShare Y ∗ (∃ d, owns (c : Thread nD τ) (ms0_11 t) fullShare d) ∗ (∃ d, owns (c : Thread nD τ) (ms0_12 t) fullShare d)
      ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t)
          ∗ iprop(owns (c : Thread nD τ) (ms0_9 t) fullShare (actAt m c t) ∗ (∃ X, ⌜Replaced m c t Y X⌝ ∗ owns (c : Thread nD τ) (ms0_10 t) fullShare X)
            ∗ owns (c : Thread nD τ) (ms0_11 t) fullShare (codesAt m c t) ∗ owns (c : Thread nD τ) (ms0_12 t) fullShare (scalesAt m c t))
          ∗ owns (c : Thread nD τ) scM0_0 fullShare (wAt m c t.val t.isLt) ∗ (∃ d, owns (c : Thread nD τ) scM0_1 fullShare d) ∗ (∃ d, owns (c : Thread nD τ) scM0_2 fullShare d) ∗ (∃ d, owns (c : Thread nD τ) scM0_3 fullShare d)) -∗ K ⟨⟩)) : sProp 𝕄)
    ⊢ wp frame (wpE (defs₀ (F := F)) Variants.none c none) Set.univ (bodyAt0 t) K := by
  by_cases h1 : t.val < 6
  · obtain ⟨h, e⟩ := hidden_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y
    have hw : weightsOf (iblk m c 3 t) (iblk m c 4 t) = wAt m c t.val t.isLt := by rw [wAt, tileStart_eq t h0]
    have h10 : ∃ (off : Fin 2 → ℕ) (_ : off = ![256 * (t.val % 6), 0]) (h : ∀ a, off a + S256x48.size a ≤ S1536x48.size a) (w : Vec F S256x48 .f32) (_ : w = newRows m c t Y),
        (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y).2.1 = [⟨Rect.unit (s := S1536x48) off S256x48.size h, w⟩] :=
      ⟨k0_off1 (grid0.coords t), by rw [k0_off1_eq, row_off], h, _, by rw [newRows, if_pos h1]; rw [hw]; rfl, e⟩
    iintro ⟨H0, H1, H2, H3, H4, H5, H6, H7, H8, H9, H10, H11, H12, HS0, HS1, HS2, HS3, Hk⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y).2.2.2.2.2 Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, ⟨%es, HS0⟩, HS1, HS2, HS3⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9 H10 H11 H12]
    · iapply (settle m c t Y _ _ _ _ ((act_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y).trans (by rw [hw]; rfl)) h10 ((codes_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y).trans (by rw [hw]; rfl)) ((scales_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y).trans (by rw [hw]; rfl)))
      isplitl [H9]; · iexact H9
      isplitl [H10]; · iexact H10
      isplitl [H11]; · iexact H11
      iexact H12
    isplitl [HS0]
    · unfold owns; iexists _; isplitr
      swap; · iexact HS0
      ipureintro
      rw [weights_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) Y]
      exact (View.read_writes_eq_canon _ es _ (cover_weights _ _ _)).trans hw
    isplitl [HS1]; · iexact HS1
    isplitl [HS2]; · iexact HS2
    iexact HS3
  · obtain ⟨h, e⟩ := hidden_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y
    have hw : weightsOf (iblk m c 3 t) (iblk m c 4 t) = wAt m c t.val t.isLt := by rw [wAt, tileStart_eq t h0]
    have h10 : ∃ (off : Fin 2 → ℕ) (_ : off = ![256 * (t.val % 6), 0]) (h : ∀ a, off a + S256x48.size a ≤ S1536x48.size a) (w : Vec F S256x48 .f32) (_ : w = newRows m c t Y),
        (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y).2.1 = [⟨Rect.unit (s := S1536x48) off S256x48.size h, w⟩] :=
      ⟨k0_off2 (grid0.coords t), by rw [k0_off2_eq, row_off], h, _, by rw [newRows, if_neg h1, hw]; exact congrArg _ (funext fun j => congrArg Y (rows_idx t _ (by rw [k0_off2_eq, row_off]) h j)), e⟩
    iintro ⟨H0, H1, H2, H3, H4, H5, H6, H7, H8, H9, H10, H11, H12, HS0, HS1, HS2, HS3, Hk⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y).2.2.2.2.2 Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, ⟨%es, HS0⟩, HS1, HS2, HS3⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9 H10 H11 H12]
    · iapply (settle m c t Y _ _ _ _ ((act_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y).trans (by rw [hw]; rfl)) h10 ((codes_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y).trans (by rw [hw]; rfl)) ((scales_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y).trans (by rw [hw]; rfl)))
      isplitl [H9]; · iexact H9
      isplitl [H10]; · iexact H10
      isplitl [H11]; · iexact H11
      iexact H12
    isplitl [HS0]
    · unfold owns; iexists _; isplitr
      swap; · iexact HS0
      ipureintro
      rw [weights_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) Y]
      exact (View.read_writes_eq_canon _ es _ (cover_weights _ _ _)).trans hw
    isplitl [HS1]; · iexact HS1
    isplitl [HS2]; · iexact HS2
    iexact HS3

end Cert.KernelIdeal.Main

end
-- ==== Proof.Main.Frame.lean ====
/- The main call's run: its proof data, the body obligation at every grid point, the launch, and what every final state holds —
   the argument arrays unchanged, and the four output arrays by name. -/
module

public import proofs.«01_k».proof.Proof.Main.Step
public import Idealize.ShloMosaic.Lib.Pipeline.ArrRel

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before position `n`: before the first point every scratch at anything, afterwards the kept weights by name. -/
def PhiS (c : Dev nD) : (n : ℕ) → n ≤ cfg0.N → sProp 𝕄
  | 0, _ => Pipeline.ΦA spec0 c
  | n + 1, hn => iprop(iprop(owns (c : Thread nD τ) scM0_0 fullShare (wAt m c n hn) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (wAt m c n hn) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (wAt m c (n - 1) (by omega)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- Within a column tile the kept weights are the same. -/
theorem wAt_pred (c : Dev nD) (t : Fin cfg0.N) (h0 : ¬t.val % 6 = 0) (h : t.val - 1 < cfg0.N) : wAt m c (t.val - 1) h = wAt m c t.val t.isLt := by
  have e : tileStart (t.val - 1) h = tileStart t.val t.isLt := Fin.ext (by show 6 * ((t.val - 1) / 6) = 6 * (t.val / 6); omega)
  rw [wAt, wAt, e]

/-- The next hidden rows' window, of which a point is known to leave only what `Known` says. -/
def fgt : Fin 13 → Bool := fun w => w.val == 10

/-- The pipeline's proof data: an input's buffer at its block, an output's at the point's named contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => actAt m c t
    | ⟨10, h⟩ => Pipeline.Dat.unnamed (cfg := cfg0) ⟨10, h⟩ t
    | ⟨11, _⟩ => codesAt m c t
    | ⟨12, _⟩ => scalesAt m c t
  Φ t := PhiS m c t.val (Nat.le_of_lt_succ t.isLt)
  q _ := fullShare
  owed _ := 0

/-- What is asked of the marked window after a point. -/
def Rl (c : Dev nD) (w : Fin cfg0.W) (t : Fin cfg0.N) (X : (cfg0.win w).block.Idx → Elt F (cfg0.win w).elt) : Prop :=
  match w, X with
  | ⟨10, _⟩, X => Known m c t X
  | _, _ => True

/-- The relational proof data. -/
abbrev rdat (c : Dev nD) : Pipeline.RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = actAt m c t := by dsimp only [dats]
theorem after0_11 (c : Dev nD) (t : Fin cfg0.N) : (dats m 0 c).after 11 t = codesAt m c t := by dsimp only [dats]
theorem after0_12 (c : Dev nD) (t : Fin cfg0.N) : (dats m 0 c).after 12 t = scalesAt m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

/-- The next hidden rows are written back at the last point only. -/
theorem flush0_10 : ∀ u : Fin cfg0.N, u.val ≠ 107 → (cfg0.win 10).flush u = false :=
  (by decide +kernel : ∀ u : Fin grid0.N, u.val ≠ 107 → (cfg0.win 10).flush u = false)

theorem fetch0_10 : ∀ u : Fin cfg0.N, (cfg0.win 10).fetch u = false := fun _ => rfl

/-- What a point finds in the next hidden rows' buffer is what is known after the point before. -/
theorem known_before (c : Dev nD) (t : Fin cfg0.N) (Y : Vec F S1536x48 .f32) (hY : (rdat m c).Finds 10 t Y) (h : t.val ≠ 0) :
    Known m c ⟨t.val - 1, by omega⟩ Y := by
  have hN : t.val < 108 := lt_of_lt_of_eq t.isLt (show cfg0.N = 108 from N_0)
  rcases ((rdat m c).finds_of_pos (fetch0_10 t) h Y).mp hY with hf | hl
  · rw [flush0_10 _ (by show t.val - 1 ≠ 107; omega)] at hf
    exact absurd hf (by decide)
  · exact (dats m 0 c).toRRel_leaves (fgt := fgt) (Rl := Rl m c) (w := 10) rfl hl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ Y, ⌜(rdat m c).Finds 10 t Y⌝ ∗ owns (c : Thread nD τ) (ms0_10 t) fullShare Y)
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ X, ⌜Known m c t X⌝ ∗ owns (c : Thread nD τ) (ms0_10 t) fullShare X)
    ∗ owns (c : Thread nD τ) (ms0_11 t) fullShare ((dats m 0 c).after 11 t)
    ∗ owns (c : Thread nD τ) (ms0_12 t) fullShare ((dats m 0 c).after 12 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8,
    after0_0, after0_1, after0_2, after0_3, after0_4, after0_5, after0_6, after0_7, after0_8, after0_9, after0_11, after0_12]
  rw [show (dats m 0 c).owesAt () t.succ = (dats m 0 c).owesAt () t.castSucc from rfl]
  rw [show (dats m 0 c).Φ t.succ = PhiS m c (t.val + 1) t.isLt from rfl, PhiS_succ, PhiS_castSucc m c t]
  by_cases h0 : t.val % 6 = 0
  · by_cases hz : t.val = 0
    · rw [PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩, ⟨%d11, H11⟩, ⟨%d12, H12⟩⟩
      iapply (step_first m c t h0 Y _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      iintro ⟨H0, H1, H2, H3, H4, H5, H6, H7, H8, ⟨H9, ⟨%X, %hX, H10⟩, H11, H12⟩, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists X; isplitr
        · ipureintro; exact Known.step m c t Y X (known_before m c t Y hY) hX
        iexact H10
      isplitl [H11]; · iexact H11
      iexact H12
    · rw [PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩, ⟨%d11, H11⟩, ⟨%d12, H12⟩⟩
      iapply (step_first m c t h0 Y _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexists _; iexact H11
      isplitl [H12]; · iexists _; iexact H12
      isplitl [HS0]; · iexists _; iexact HS0
      isplitl [HS1]; · iexact HS1
      isplitl [HS2]; · iexact HS2
      isplitl [HS3]; · iexact HS3
      iintro ⟨H0, H1, H2, H3, H4, H5, H6, H7, H8, ⟨H9, ⟨%X, %hX, H10⟩, H11, H12⟩, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists X; isplitr
        · ipureintro; exact Known.step m c t Y X (known_before m c t Y hY) hX
        iexact H10
      isplitl [H11]; · iexact H11
      iexact H12
  · rw [PhiS_pos m c _ _ (fun hz => h0 (by rw [hz])), wAt_pred m c t h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩, ⟨%d11, H11⟩, ⟨%d12, H12⟩⟩
    iapply (step_late m c t h0 Y _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, ⟨H9, ⟨%X, %hX, H10⟩, H11, H12⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists X; isplitr
      · ipureintro; exact Known.step m c t Y X (known_before m c t Y hY) hX
      iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the scratch back, its contents forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiS_pos m c _ _ (by have : cfg0.N = 108 := N_0; omega), PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-! ## The run -/

set_option backward.isDefEq.respectTransparency.types false in
/-- The launch: every weakly fair execution terminates with the arrays as the proof data say and every counter at zero. -/
theorem run_main : θ_run defs (onTc (τ := τ) (main (F := F))) (s₀ m ρ) (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The argument arrays end unchanged, whatever the proof data name, once their arrays are those the region finds. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 5 rfl).trans ((hA c 5).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in h c 8 rfl).trans ((hA c 8).trans (V_main_arg10 m c))⟩) h

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (args_of m ρ (rdat m) (A_eq m) ((θ_run defs _ _).mono (fun _ h => h.1) (run_main m ρ)))
    ((θ_run defs _ _).mono (fun _ h => h.2) (run_main m ρ))

end Cert.KernelIdeal.Main

end
-- ==== Proof.Main.Codes.lean ====
/- Four-bit codes of one value: the kernel counts the thresholds the clipped magnitude passes, the reference rounds the
   magnitude to its grid (ties to even) and reads the code off the rounded value. The two give one code, but for a
   negative value that rounds to zero, where the kernel has the sign bit and the reference has not. -/
module

public import Idealize.ShloMosaic.Lib.Pointwise
public import Idealize.ShloMosaic.Lib.IdealHost

@[expose] public section

noncomputable section

namespace Cert.Quant

open Idealize.ShloMosaic

theorem c_quarter : Ideal.ofBits .f32 0x3E800000#32 = ((1 / 4 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_three_quarters : Ideal.ofBits .f32 0x3F400000#32 = ((3 / 4 : ℝ) : EReal) := by
  simp [Ideal.ofBits, Ideal.ieee, -EReal.coe_mul]; norm_num
theorem c_five_quarters : Ideal.ofBits .f32 0x3FA00000#32 = ((5 / 4 : ℝ) : EReal) := by
  simp [Ideal.ofBits, Ideal.ieee, -EReal.coe_mul]; norm_num
theorem c_three_halves : Ideal.ofBits .f32 0x3FC00000#32 = ((3 / 2 : ℝ) : EReal) := by
  simp [Ideal.ofBits, Ideal.ieee, -EReal.coe_mul]; norm_num
theorem c_seven_quarters : Ideal.ofBits .f32 0x3FE00000#32 = ((7 / 4 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_five_halves : Ideal.ofBits .f32 0x40200000#32 = ((5 / 2 : ℝ) : EReal) := by
  simp [Ideal.ofBits, Ideal.ieee, -EReal.coe_mul]; norm_num
theorem c_three : Ideal.ofBits .f32 0x40400000#32 = ((3 : ℝ) : EReal) := by
  simp [Ideal.ofBits, Ideal.ieee, -EReal.coe_mul]; norm_num
theorem c_seven_halves : Ideal.ofBits .f32 0x40600000#32 = ((7 / 2 : ℝ) : EReal) := by
  simp [Ideal.ofBits, Ideal.ieee, -EReal.coe_mul]; norm_num
theorem c_four : Ideal.ofBits .f32 0x40800000#32 = ((4 : ℝ) : EReal) := by
  simp [Ideal.ofBits, Ideal.ieee, -EReal.coe_mul]; norm_num
theorem c_five : Ideal.ofBits .f32 0x40A00000#32 = ((5 : ℝ) : EReal) := by
  simp [Ideal.ofBits, Ideal.ieee, -EReal.coe_mul]; norm_num
theorem c_six : Ideal.ofBits .f32 0x40C00000#32 = ((6 : ℝ) : EReal) := by
  simp [Ideal.ofBits, Ideal.ieee, -EReal.coe_mul]; norm_num
theorem c_neg_six : Ideal.ofBits .f32 0xC0C00000#32 = ((-6 : ℝ) : EReal) := by
  simp [Ideal.ofBits, Ideal.ieee, -EReal.coe_mul, -EReal.coe_neg]; norm_num
theorem c_neg_half : Ideal.ofBits .f32 0xBF000000#32 = ((-(1 / 2) : ℝ) : EReal) := by
  simp [Ideal.ofBits, Ideal.ieee, -EReal.coe_mul, -EReal.coe_neg]; norm_num

/-- One if the magnitude passes the threshold of pattern `b`, else zero. -/
def hit (p : CmpFPredicate) (m : EReal) (b : BitVec 32) : BitVec 32 :=
  Scalar.select (Ideal.cmp p m (Ideal.ofBits .f32 b)) 1#32 0#32

/-- How many of the seven thresholds a magnitude passes. -/
def hits (m : EReal) : BitVec 32 :=
  hit .ogt m 0x3E800000#32 + hit .oge m 0x3F400000#32 + hit .ogt m 0x3FA00000#32 + hit .oge m 0x3FE00000#32
    + hit .ogt m 0x40200000#32 + hit .oge m 0x40600000#32 + hit .ogt m 0x40A00000#32

/-- The value clipped to the grid's range. -/
def clip6 (t : EReal) : EReal := min (Ideal.ofBits .f32 0x40C00000#32) (max (Ideal.ofBits .f32 0xC0C00000#32) t)

/-- The kernel's code of a value. -/
def codeK (t : EReal) : BitVec 32 :=
  Scalar.select (Ideal.cmp .olt (clip6 t) (Ideal.ofBits .f32 0x00000000#32))
    (hits (max (clip6 t) (-clip6 t)) + 8#32) (hits (max (clip6 t) (-clip6 t)))

/-- The reference's rounded magnitude. -/
def gridR (m : EReal) : EReal :=
  Scalar.select (Ideal.cmp .olt m (Ideal.ofBits .f32 0x40000000#32))
    (Ideal.div (Ideal.liftRound Ideal.roundHalfEven (Ideal.ofBits .f32 0x40000000#32 * m)) (Ideal.ofBits .f32 0x40000000#32))
    (Scalar.select (Ideal.cmp .olt m (Ideal.ofBits .f32 0x40800000#32)) (Ideal.liftRound Ideal.roundHalfEven m)
      (Ideal.ofBits .f32 0x40000000#32
        * Ideal.liftRound Ideal.roundHalfEven (Ideal.div m (Ideal.ofBits .f32 0x40000000#32))))

/-- The reference's code of a rounded magnitude. -/
def indexR (q : EReal) : BitVec 32 :=
  Ideal.fptosi 32 (Scalar.select (Ideal.cmp .olt q (Ideal.ofBits .f32 0x40000000#32)) (Ideal.ofBits .f32 0x40000000#32 * q)
    (Scalar.select (Ideal.cmp .olt q (Ideal.ofBits .f32 0x40800000#32)) (q + Ideal.ofBits .f32 0x40000000#32)
      (Ideal.div q (Ideal.ofBits .f32 0x40000000#32) + Ideal.ofBits .f32 0x40800000#32)))

/-- The reference's magnitude, cut at the grid's end. -/
def magR (t : EReal) : EReal := min (max t (-t)) (Ideal.ofBits .f32 0x40C00000#32)

/-- The reference's code of a value. -/
def codeR (t : EReal) : BitVec 32 :=
  Scalar.select (IntOp.andi (Ideal.cmp .olt t (Ideal.ofBits .f32 0x00000000#32))
      (Ideal.cmp .ogt (gridR (magR t)) (Ideal.ofBits .f32 0x00000000#32)))
    (IntOp.ori (indexR (gridR (magR t))) 8#32) (indexR (gridR (magR t)))

theorem select_ofBool {α : Type} (b : Bool) (x y : α) : Scalar.select (BitVec.ofBool b) x y = if b then x else y := by
  cases b <;> rfl

theorem cmp_olt (x y : EReal) : Ideal.cmp .olt x y = BitVec.ofBool (decide (x < y)) := rfl
theorem cmp_ogt (x y : EReal) : Ideal.cmp .ogt x y = BitVec.ofBool (decide (y < x)) := rfl
theorem cmp_oge (x y : EReal) : Ideal.cmp .oge x y = BitVec.ofBool (decide (y ≤ x)) := rfl

/-- Rounding to nearest, ties to even, at a real near an integer. -/
theorem round_of_near {x : ℝ} {n : ℤ} (h1 : (n : ℝ) - 1 / 2 < x) (h2 : x < n + 1 / 2) : Ideal.roundHalfEven x = n := by
  unfold Ideal.roundHalfEven
  rcases le_or_gt (n : ℝ) x with h | h
  · have hf : ⌊x⌋ = n := Int.floor_eq_iff.2 ⟨h, by linarith⟩
    simp only [hf]; rw [if_pos (by linarith)]
  · have hf : ⌊x⌋ = n - 1 := Int.floor_eq_iff.2 ⟨by push_cast; linarith, by push_cast; linarith⟩
    simp only [hf]; push_cast
    rw [if_neg (by linarith), if_pos (by linarith)]; ring

/-- The same at an even integer, the ties included. -/
theorem round_of_near_even {x : ℝ} {n : ℤ} (he : Even n) (h1 : (n : ℝ) - 1 / 2 ≤ x) (h2 : x ≤ n + 1 / 2) :
    Ideal.roundHalfEven x = n := by
  rcases h1.lt_or_eq with h1 | h1
  · rcases h2.lt_or_eq with h2 | h2
    · exact round_of_near h1 h2
    · have hf : ⌊x⌋ = n := Int.floor_eq_iff.2 ⟨by linarith, by linarith⟩
      unfold Ideal.roundHalfEven
      simp only [hf]
      rw [if_neg (by linarith), if_neg (by linarith), if_pos he]
  · have hf : ⌊x⌋ = n - 1 := Int.floor_eq_iff.2 ⟨by push_cast; linarith, by push_cast; linarith⟩
    unfold Ideal.roundHalfEven
    simp only [hf]; push_cast
    rw [if_neg (by linarith), if_neg (by linarith), if_neg]
    · ring
    · rintro ⟨a, ha⟩
      obtain ⟨b, hb⟩ := he
      omega

/-- Division by two of a real. -/
theorem div_two (x : ℝ) : Ideal.div (x : EReal) ((2 : ℝ) : EReal) = ((x / 2 : ℝ) : EReal) := by
  unfold Ideal.div
  rw [if_neg (by exact_mod_cast (two_ne_zero : (2 : ℝ) ≠ 0)), ← EReal.coe_inv, ← EReal.coe_mul, div_eq_mul_inv]

/-- The reference's rounded magnitude of a real, as a real. -/
theorem gridR_coe (x : ℝ) : gridR (x : EReal)
    = (((if x < 2 then (Ideal.roundHalfEven (2 * x) : ℝ) / 2 else if x < 4 then (Ideal.roundHalfEven x : ℝ)
        else 2 * (Ideal.roundHalfEven (x / 2) : ℝ)) : ℝ) : EReal) := by
  unfold gridR
  simp only [c_two, c_four, cmp_olt, select_ofBool, EReal.coe_lt_coe_iff, decide_eq_true_eq, ← EReal.coe_mul, div_two,
    Ideal.liftRound_coe]
  split_ifs <;> rfl

/-- How many thresholds a real magnitude passes, each threshold a real comparison. -/
theorem hits_coe (x : ℝ) : hits (x : EReal)
    = (if 1 / 4 < x then 1#32 else 0#32) + (if 3 / 4 ≤ x then 1#32 else 0#32) + (if 5 / 4 < x then 1#32 else 0#32)
      + (if 7 / 4 ≤ x then 1#32 else 0#32) + (if 5 / 2 < x then 1#32 else 0#32) + (if 7 / 2 ≤ x then 1#32 else 0#32)
      + (if 5 < x then 1#32 else 0#32) := by
  unfold hits hit
  simp only [c_quarter, c_three_quarters, c_five_quarters, c_seven_quarters, c_five_halves, c_seven_halves, c_five,
    cmp_ogt, cmp_oge, select_ofBool, EReal.coe_lt_coe_iff, EReal.coe_le_coe_iff, decide_eq_true_eq]

/-- The code of a real on the grid, from its value. -/
theorem indexR_coe (q : ℝ) : indexR (q : EReal)
    = BitVec.ofInt 32 (max (-(2 ^ 31 : ℕ) : ℤ) (min ((2 ^ 31 : ℕ) - 1 : ℤ)
        (if 0 ≤ (if q < 2 then 2 * q else if q < 4 then q + 2 else q / 2 + 4)
          then ⌊(if q < 2 then 2 * q else if q < 4 then q + 2 else q / 2 + 4 : ℝ)⌋
          else ⌈(if q < 2 then 2 * q else if q < 4 then q + 2 else q / 2 + 4 : ℝ)⌉))) := by
  unfold indexR
  simp only [c_two, c_four, cmp_olt, select_ofBool, EReal.coe_lt_coe_iff, decide_eq_true_eq, ← EReal.coe_mul, div_two,
    ← EReal.coe_add]
  have e : (if q < 2 then ((2 * q : ℝ) : EReal) else if q < 4 then ((q + 2 : ℝ) : EReal) else ((q / 2 + 4 : ℝ) : EReal))
      = ((if q < 2 then 2 * q else if q < 4 then q + 2 else q / 2 + 4 : ℝ) : EReal) := by split_ifs <;> rfl
  rw [e, Ideal.fptosi, Ideal.toIntClamped_coe]

/-- The code of a grid value, from the value's place on the grid. -/
theorem index_of {q : ℝ} {k : ℕ} (hk : k < 8) (h : (if q < 2 then 2 * q else if q < 4 then q + 2 else q / 2 + 4) = (k : ℝ)) :
    indexR (q : EReal) = BitVec.ofNat 32 k := by
  rw [indexR_coe, h, if_pos (Nat.cast_nonneg k), Int.floor_natCast]
  interval_cases k <;> rfl

/-- A real magnitude on the grid's range: the two codes are one, below eight, and the rounded magnitude is positive
    exactly off code zero. -/
theorem mag_code (x : ℝ) (h0 : 0 ≤ x) (h6 : x ≤ 6) :
    ∃ q : ℝ, gridR (x : EReal) = (q : EReal) ∧ ∃ k : ℕ, k < 8 ∧ hits (x : EReal) = BitVec.ofNat 32 k
      ∧ indexR (q : EReal) = BitVec.ofNat 32 k ∧ (0 < q ↔ k ≠ 0) := by
  rw [hits_coe]
  have key : ∀ (v : ℝ) (k : ℕ), k < 8 →
      (if x < 2 then (Ideal.roundHalfEven (2 * x) : ℝ) / 2 else if x < 4 then (Ideal.roundHalfEven x : ℝ)
        else 2 * (Ideal.roundHalfEven (x / 2) : ℝ)) = v →
      (if v < 2 then 2 * v else if v < 4 then v + 2 else v / 2 + 4) = (k : ℝ) → (0 < v ↔ k ≠ 0) →
      ∀ w : BitVec 32, w = BitVec.ofNat 32 k →
      ∃ q : ℝ, gridR (x : EReal) = (q : EReal) ∧ ∃ k : ℕ, k < 8 ∧ w = BitVec.ofNat 32 k
        ∧ indexR (q : EReal) = BitVec.ofNat 32 k ∧ (0 < q ↔ k ≠ 0) := fun v k hk hg hi hp w hw =>
    ⟨v, by rw [gridR_coe, hg], k, hk, hw, index_of hk hi, hp⟩
  rcases le_or_gt x (1 / 4) with h1 | h1
  · refine key (0) 0 (by norm_num) ?_ (by norm_num) (by norm_num) _ ?_
    · rw [if_pos (by linarith : x < 2), round_of_near_even (n := 0) (by decide) (by norm_num; linarith) (by norm_num; linarith)]; norm_num
    · rw [if_neg (by linarith), if_neg (by linarith), if_neg (by linarith), if_neg (by linarith), if_neg (by linarith), if_neg (by linarith), if_neg (by linarith)]; rfl
  rcases lt_or_ge x (3 / 4) with h2 | h2
  · refine key (1 / 2) 1 (by norm_num) ?_ (by norm_num) (by norm_num) _ ?_
    · rw [if_pos (by linarith : x < 2), round_of_near (n := 1) (by norm_num; linarith) (by norm_num; linarith)]; norm_num
    · rw [if_pos (by linarith), if_neg (by linarith), if_neg (by linarith), if_neg (by linarith), if_neg (by linarith), if_neg (by linarith), if_neg (by linarith)]; rfl
  rcases le_or_gt x (5 / 4) with h3 | h3
  · refine key (1) 2 (by norm_num) ?_ (by norm_num) (by norm_num) _ ?_
    · rw [if_pos (by linarith : x < 2), round_of_near_even (n := 2) (by decide) (by norm_num; linarith) (by norm_num; linarith)]; norm_num
    · rw [if_pos (by linarith), if_pos (by linarith), if_neg (by linarith), if_neg (by linarith), if_neg (by linarith), if_neg (by linarith), if_neg (by linarith)]; rfl
  rcases lt_or_ge x (7 / 4) with h4 | h4
  · refine key (3 / 2) 3 (by norm_num) ?_ (by norm_num) (by norm_num) _ ?_
    · rw [if_pos (by linarith : x < 2), round_of_near (n := 3) (by norm_num; linarith) (by norm_num; linarith)]; norm_num
    · rw [if_pos (by linarith), if_pos (by linarith), if_pos (by linarith), if_neg (by linarith), if_neg (by linarith), if_neg (by linarith), if_neg (by linarith)]; rfl
  rcases le_or_gt x (5 / 2) with h5 | h5
  · refine key (2) 4 (by norm_num) ?_ (by norm_num) (by norm_num) _ ?_
    · rcases lt_or_ge x 2 with h | h
      · rw [if_pos (by linarith : x < 2), round_of_near_even (n := 4) (by decide) (by norm_num; linarith) (by norm_num; linarith)]; norm_num
      · rw [if_neg (by linarith : ¬ x < 2), if_pos (by linarith : x < 4), round_of_near_even (n := 2) (by decide) (by norm_num; linarith) (by norm_num; linarith)]; norm_num
    · rw [if_pos (by linarith), if_pos (by linarith), if_pos (by linarith), if_pos (by linarith), if_neg (by linarith), if_neg (by linarith), if_neg (by linarith)]; rfl
  rcases lt_or_ge x (7 / 2) with h6' | h6'
  · refine key (3) 5 (by norm_num) ?_ (by norm_num) (by norm_num) _ ?_
    · rw [if_neg (by linarith : ¬ x < 2), if_pos (by linarith : x < 4), round_of_near (n := 3) (by norm_num; linarith) (by norm_num; linarith)]; norm_num
    · rw [if_pos (by linarith), if_pos (by linarith), if_pos (by linarith), if_pos (by linarith), if_pos (by linarith), if_neg (by linarith), if_neg (by linarith)]; rfl
  rcases le_or_gt x 5 with h7 | h7
  · refine key (4) 6 (by norm_num) ?_ (by norm_num) (by norm_num) _ ?_
    · rcases lt_or_ge x 4 with h | h
      · rw [if_neg (by linarith : ¬ x < 2), if_pos (by linarith : x < 4), round_of_near_even (n := 4) (by decide) (by norm_num; linarith) (by norm_num; linarith)]; norm_num
      · rw [if_neg (by linarith : ¬ x < 2), if_neg (by linarith : ¬ x < 4), round_of_near_even (n := 2) (by decide) (by norm_num; linarith) (by norm_num; linarith)]; norm_num
    · rw [if_pos (by linarith), if_pos (by linarith), if_pos (by linarith), if_pos (by linarith), if_pos (by linarith), if_pos (by linarith), if_neg (by linarith)]; rfl
  · refine key (6) 7 (by norm_num) ?_ (by norm_num) (by norm_num) _ ?_
    · rw [if_neg (by linarith : ¬ x < 2), if_neg (by linarith : ¬ x < 4), round_of_near (n := 3) (by norm_num; linarith) (by norm_num; linarith)]; norm_num
    · rw [if_pos (by linarith), if_pos (by linarith), if_pos (by linarith), if_pos (by linarith), if_pos (by linarith), if_pos (by linarith), if_pos (by linarith)]; rfl

/-- The larger of two reals, among the extended reals. -/
theorem coe_max (a b : ℝ) : ((max a b : ℝ) : EReal) = max (a : EReal) (b : EReal) := EReal.coe_strictMono.monotone.map_max

/-- The smaller of two reals, among the extended reals. -/
theorem coe_min (a b : ℝ) : ((min a b : ℝ) : EReal) = min (a : EReal) (b : EReal) := EReal.coe_strictMono.monotone.map_min

/-- A clipped value's magnitude is the magnitude cut at the grid's end, a real between zero and six; clipping keeps the sign. -/
theorem clip6_facts (t : EReal) : ∃ x : ℝ, 0 ≤ x ∧ x ≤ 6 ∧ max (clip6 t) (-clip6 t) = (x : EReal) ∧ magR t = (x : EReal)
    ∧ (clip6 t < 0 ↔ t < 0) := by
  unfold clip6 magR
  rw [c_six, c_neg_six]
  induction t using EReal.rec with
  | bot =>
    refine ⟨6, by norm_num, le_refl _, ?_, ?_, ?_⟩
    · rw [max_bot_right, min_eq_right (by exact_mod_cast (by norm_num : (-6 : ℝ) ≤ 6)), ← EReal.coe_neg]
      rw [max_eq_right (by exact_mod_cast (by norm_num : (-6 : ℝ) ≤ - -6))]; norm_num
    · simp
    · rw [max_bot_right, min_eq_right (by exact_mod_cast (by norm_num : (-6 : ℝ) ≤ 6))]
      exact ⟨fun _ => EReal.bot_lt_zero, fun _ => by exact_mod_cast (by norm_num : (-6 : ℝ) < 0)⟩
  | top =>
    refine ⟨6, by norm_num, le_refl _, ?_, ?_, ?_⟩
    · rw [max_top_right, min_top_right, ← EReal.coe_neg]
      exact max_eq_left (by exact_mod_cast (by norm_num : (-6 : ℝ) ≤ 6))
    · simp
    · rw [max_top_right, min_top_right]
      exact ⟨fun h => absurd h (by simp only [not_lt]; exact_mod_cast (by norm_num : (0 : ℝ) ≤ 6)), fun h => absurd h (by simp)⟩
  | coe r =>
    refine ⟨min (max r (-r)) 6, le_min (by rcases le_total 0 r with h | h <;> [exact le_max_of_le_left h; exact le_max_of_le_right (by linarith)]) (by norm_num),
      min_le_right _ _, ?_, ?_, ?_⟩
    · rw [← coe_max, ← coe_min, ← EReal.coe_neg, ← coe_max, EReal.coe_eq_coe_iff]
      rcases le_total r 0 with h | h <;> rcases le_total (-6) r with h2 | h2 <;> rcases le_total r 6 with h3 | h3 <;>
        first
        | (exfalso; linarith)
        | (simp only [max_def, min_def]; split_ifs <;> linarith)
    · rw [← EReal.coe_neg, ← coe_max, ← coe_min]
    · rw [← coe_max, ← coe_min]
      simp only [EReal.coe_neg', ← EReal.coe_zero, EReal.coe_lt_coe_iff]
      constructor
      · intro h
        rcases min_lt_iff.1 h with h | h
        · linarith
        · exact (max_lt_iff.1 h).2
      · intro h
        exact min_lt_of_right_lt (max_lt (by norm_num) h)

/-- The two codes of a value: below sixteen, and one code but for the negative zero. -/
theorem code_eq (t : EReal) : ∃ k : ℕ, k < 16 ∧ codeK t = BitVec.ofNat 32 k
    ∧ codeR t = BitVec.ofNat 32 (if k = 8 then 0 else k) := by
  obtain ⟨x, h0, h6, hk, hr, hs⟩ := clip6_facts t
  obtain ⟨q, hq, k, hk8, hh, hi, hp⟩ := mag_code x h0 h6
  unfold codeK codeR
  rw [hk, hr, hq, hh, hi]
  simp only [cmp_olt, cmp_ogt, Ideal.ofBits_zero_f32, select_ofBool, IntOp.andi, IntOp.ori]
  have hq0 : ((0 : EReal) < (q : EReal)) ↔ k ≠ 0 := by rw [← hp]; exact_mod_cast Iff.rfl
  by_cases ht : t < 0
  · have hc : clip6 t < 0 := hs.2 ht
    refine ⟨k + 8, by omega, ?_, ?_⟩
    · rw [decide_eq_true hc, if_pos rfl]
      interval_cases k <;> rfl
    · by_cases hk0 : k = 0
      · subst hk0
        rw [decide_eq_true ht, decide_eq_false (by rw [hq0]; simp)]; rfl
      · rw [decide_eq_true ht, decide_eq_true (hq0.2 hk0)]
        interval_cases k <;> first | rfl | exact absurd rfl hk0
  · have hc : ¬ clip6 t < 0 := fun h => ht (hs.1 h)
    refine ⟨k, by omega, ?_, ?_⟩
    · rw [decide_eq_false hc]; rfl
    · rw [decide_eq_false ht, if_neg (by omega)]
      have e : (BitVec.ofBool false &&& BitVec.ofBool (decide ((0 : EReal) < (q : EReal))) : BitVec 1) = BitVec.ofBool false := by
        cases decide ((0 : EReal) < (q : EReal)) <;> rfl
      rw [e]; rfl

end Cert.Quant

end
-- ==== Proof.Main.Blocks.lean ====
/- The quantiser's vector operations read entry by entry, over the extended reals: the codes of a block and their bytes. -/
module

public import Idealize.ShloMosaic.Lib.Pointwise
public import Idealize.ShloMosaic.Lib.BitcastFour
public import Idealize.ShloMosaic.Lib.BitcastPair
public import proofs.«01_k».proof.Proof.Main.Ops
public import proofs.«01_k».proof.Proof.Main.Codes

@[expose] public section

noncomputable section

namespace Cert.KernelIdeal.Main

open Idealize.ShloMosaic
open Cert.KernelIdeal.Gen
open Cert.Quant

/-- The bytes of a word with the signs of zeros cleared. -/
def clearByte (b : BitVec 8) : BitVec 8 := b &&& (((b &&& 0x77#8) + 0x77#8) ||| 0x77#8)

/-- A bitwise product's low digits are at most the factor's. -/
theorem and_mod_le (a b j : ℕ) : (a &&& b) % 2 ^ j ≤ b % 2 ^ j := by
  rw [Nat.and_mod_two_pow]
  exact Nat.and_le_right

theorem byte0 (n : ℕ) : (n + 2004318071) % 4294967296 % 256 = (n % 256 + 119) % 256 := by omega
theorem byte1 (n : ℕ) (h : n % 256 ≤ 119) : (n + 2004318071) % 4294967296 / 256 % 256 = (n / 256 % 256 + 119) % 256 := by omega
theorem byte2 (n : ℕ) (h : n % 65536 ≤ 30583) : (n + 2004318071) % 4294967296 / 65536 % 256 = (n / 65536 % 256 + 119) % 256 := by omega
theorem byte3 (n : ℕ) (h : n % 16777216 ≤ 7829367) : (n + 2004318071) % 4294967296 / 16777216 % 256 = (n / 16777216 % 256 + 119) % 256 := by omega

/-- No carry leaves a byte. -/
theorem add_byte (w : BitVec 32) (k : Fin 4) :
    ((w &&& 2004318071#32) + 2004318071#32).extractLsb' (8 * k.val) 8 = (w &&& 2004318071#32).extractLsb' (8 * k.val) 8 + 0x77#8 := by
  have e : (w &&& 2004318071#32).toNat = w.toNat &&& 2004318071 := by rw [BitVec.toNat_and]; rfl
  have h8 := and_mod_le w.toNat 2004318071 8
  have h16 := and_mod_le w.toNat 2004318071 16
  have h24 := and_mod_le w.toNat 2004318071 24
  rw [← e] at h8 h16 h24
  norm_num at h8 h16 h24
  apply BitVec.eq_of_toNat_eq
  rw [BitVec.extractLsb'_toNat, BitVec.toNat_add, BitVec.toNat_add, BitVec.extractLsb'_toNat, Nat.shiftRight_eq_div_pow, Nat.shiftRight_eq_div_pow]
  match k with
  | ⟨0, _⟩ => simpa using byte0 _
  | ⟨1, _⟩ => simpa using byte1 _ h8
  | ⟨2, _⟩ => simpa using byte2 _ h16
  | ⟨3, _⟩ => simpa using byte3 _ h24

/-- Clearing the signs of zeros works byte by byte. -/
theorem cleared_byte (w : BitVec 32) (k : Fin 4) :
    (IntOp.andi w (IntOp.ori (IntOp.addi (IntOp.andi w 2004318071#32) 2004318071#32) 2004318071#32)).extractLsb' (8 * k.val) 8
      = clearByte (w.extractLsb' (8 * k.val) 8) := by
  have hm : (2004318071#32).extractLsb' (8 * k.val) 8 = 0x77#8 := by revert k; decide
  have e : IntOp.andi w (IntOp.ori (IntOp.addi (IntOp.andi w 2004318071#32) 2004318071#32) 2004318071#32) = w &&& (((w &&& 2004318071#32) + 2004318071#32) ||| 2004318071#32) := rfl
  rw [e, BitVec.extractLsb'_and, BitVec.extractLsb'_or, add_byte, BitVec.extractLsb'_and, hm]
  rfl

/-- The codes of a clipped block, one by one. -/
theorem nibbles_apply (q : FVec Ideal S128x128 .f32) (r l : Fin 128) : nibbles (clipped q) (ix2 r l) = codeK (q (ix2 r l)) := by
  rfl

/-- A byte of two codes. -/
theorem paired_apply (c : IVec S128x128 32) (r : Fin 64) (l : Fin 128) :
    paired c (ix2 r l) = ((c (ix2 ⟨r.val * 2, by omega⟩ l)) ||| ((c (ix2 ⟨r.val * 2 + 1, by omega⟩ l)) <<< 4)).setWidth 8 := by
  pointwise [paired]
  rfl

/-- Byte `k` of a word of four stacked bytes. -/
theorem word_byte (b : IVec S64x128 8) (a : Fin 16) (l : Fin 128) (k : Fin 4) (r : Fin 64) (hr : r.val = 4 * a.val + k.val) :
    (bitcast S16x128 32 b bitcasts_S64x128_w8_S16x128_w32 (ix2 a l)).extractLsb' (8 * k.val) 8 = b (ix2 r l) := by
  apply BitVec.eq_of_getLsbD_eq
  intro i hi
  rw [BitVec.getLsbD_extractLsb', decide_eq_true hi, Bool.true_and]
  refine (bitcast_8_32_getLsbD_ix2 b _ a l (8 * k.val + i) (by omega) r (by omega)).trans ?_
  rw [show (8 * k.val + i) % 8 = i by omega]
  rfl

/-- A byte read off stacked words is a byte of the word. -/
theorem byte_word (w : IVec S16x128 32) (a : Fin 16) (l : Fin 128) (k : Fin 4) (r : Fin 64) (hr : r.val = 4 * a.val + k.val) :
    bitcast S64x128 8 w bitcasts_S16x128_w32_S64x128_w8 (ix2 r l) = (w (ix2 a l)).extractLsb' (8 * k.val) 8 := by
  apply BitVec.eq_of_getLsbD_eq
  intro i hi
  have hrow : (S64x128 : Shape).row (ix2 r l) = r.val := rfl
  refine (bitcast_getLsbD w _ _ i hi (by decide)).trans ?_
  rw [BitVec.getLsbD_extractLsb', decide_eq_true hi, Bool.true_and]
  have h1 : (S64x128.row (ix2 r l) * 8 + i) / 32 = a.val := by rw [hrow]; omega
  have h2 : (S64x128.row (ix2 r l) * 8 + i) % 32 = 8 * k.val + i := by rw [hrow]; omega
  rw [h2]
  refine congrArg (fun j => (w j).getLsbD (8 * k.val + i)) ?_
  funext c
  match c with
  | ⟨0, _⟩ => exact Fin.ext ((Shape.Bitcasts.srcIdx_row _ _ _ _ ⟨0, Nat.zero_lt_two⟩ rfl).trans h1)
  | ⟨1, _⟩ => exact Fin.ext (Shape.Bitcasts.srcIdx_other _ _ _ _ ⟨1, Nat.one_lt_two⟩ (by show ¬ 1 + 2 = 2; omega))

/-- A byte of the cleared words of stacked bytes. -/
theorem cleared_apply (b : IVec S64x128 8) (r : Fin 64) (l : Fin 128) :
    bitcast S64x128 8 (cleared (bitcast S16x128 32 b bitcasts_S64x128_w8_S16x128_w32)) bitcasts_S16x128_w32_S64x128_w8 (ix2 r l)
      = clearByte (b (ix2 r l)) := by
  have hr : r.val = 4 * (⟨r.val / 4, by omega⟩ : Fin 16).val + (⟨r.val % 4, by omega⟩ : Fin 4).val := by show r.val = 4 * (r.val / 4) + r.val % 4; omega
  refine (byte_word _ _ l _ r hr).trans ?_
  refine (cleared_byte _ _).trans ?_
  exact congrArg clearByte (word_byte b _ l _ r hr)

/-- A scaled row, entry by entry. -/
theorem scaledRows_apply (t : FVec Ideal S16x128 .f32) (r : FVec Ideal S1x128 .f32) (i : Fin 16) (l : Fin 128) :
    scaledRows t r (ix2 i l) = t (ix2 i l) * r (ix2 0 l) := by
  pointwise [scaledRows]

/-- Eight groups of sixteen rows, row by row. -/
theorem stacked_apply (t : Fin 8 → FVec Ideal S16x128 .f32) (r l : Fin 128) :
    stacked t (ix2 r l) = t ⟨r.val / 16, by omega⟩ (ix2 ⟨r.val % 16, by omega⟩ l) := by
  have key : ∀ (k : Fin 8) (i : Fin 16), r.val = 16 * k.val + i.val → t k (ix2 i l) = t ⟨r.val / 16, by omega⟩ (ix2 ⟨r.val % 16, by omega⟩ l) := by
    intro k i h
    rw [show (⟨r.val / 16, by omega⟩ : Fin 8) = k from Fin.ext (by show r.val / 16 = k.val; omega),
      show (⟨r.val % 16, by omega⟩ : Fin 16) = i from Fin.ext (by show r.val % 16 = i.val; omega)]
  unfold stacked
  pointwise
  generalize t ⟨r.val / 16, by omega⟩ (ix2 ⟨r.val % 16, by omega⟩ l) = z at *
  by_cases h0 : r.val < 16
  · rw [dif_pos h0]; exact key 0 _ (by show r.val = 16 * 0 + (r.val); omega)
  rw [dif_neg h0]
  by_cases h1 : r.val - 16 < 16
  · rw [dif_pos h1]; exact key 1 _ (by show r.val = 16 * 1 + (r.val - 16); omega)
  rw [dif_neg h1]
  by_cases h2 : r.val - 16 - 16 < 16
  · rw [dif_pos h2]; exact key 2 _ (by show r.val = 16 * 2 + (r.val - 16 - 16); omega)
  rw [dif_neg h2]
  by_cases h3 : r.val - 16 - 16 - 16 < 16
  · rw [dif_pos h3]; exact key 3 _ (by show r.val = 16 * 3 + (r.val - 16 - 16 - 16); omega)
  rw [dif_neg h3]
  by_cases h4 : r.val - 16 - 16 - 16 - 16 < 16
  · rw [dif_pos h4]; exact key 4 _ (by show r.val = 16 * 4 + (r.val - 16 - 16 - 16 - 16); omega)
  rw [dif_neg h4]
  by_cases h5 : r.val - 16 - 16 - 16 - 16 - 16 < 16
  · rw [dif_pos h5]; exact key 5 _ (by show r.val = 16 * 5 + (r.val - 16 - 16 - 16 - 16 - 16); omega)
  rw [dif_neg h5]
  by_cases h6 : r.val - 16 - 16 - 16 - 16 - 16 - 16 < 16
  · rw [dif_pos h6]; exact key 6 _ (by show r.val = 16 * 6 + (r.val - 16 - 16 - 16 - 16 - 16 - 16); omega)
  rw [dif_neg h6]
  exact key 7 _ (by show r.val = 16 * 7 + (r.val - 16 - 16 - 16 - 16 - 16 - 16 - 16); omega)

/-- A turned slice, entry by entry. -/
theorem turned_apply (o : Fin 2 → ℕ) (h : S256x512.Slices o S128x128) (y : FVec Ideal S256x512 .f32) (r l : Fin 128) (a : Fin 256) (b : Fin 512)
    (ha : a.val = o 0 + l.val) (hb : b.val = o 1 + r.val) : turned o h y (ix2 r l) = y (ix2 a b) := by
  unfold turned
  pointwise
  exact congrArg y (congrArg₂ ix2 (Fin.ext ha.symm) (Fin.ext hb.symm))

/-- The kernel's byte of two values, the first in the low half. -/
def byteK (t0 t1 : EReal) : BitVec 8 := clearByte ((codeK t0 ||| codeK t1 <<< 4).setWidth 8)

/-- The reference's byte of two values. -/
def byteR (t0 t1 : EReal) : BitVec 8 := (codeR t0 ||| codeR t1 <<< 4).setWidth 8

/-- The two bytes are one: clearing the sign of a zero is all they differ by. -/
theorem byte_eq (t0 t1 : EReal) : byteK t0 t1 = byteR t0 t1 := by
  obtain ⟨j, hj, hk, hr⟩ := code_eq t0
  obtain ⟨k, hk', hk2, hr2⟩ := code_eq t1
  unfold byteK byteR
  rw [hk, hr, hk2, hr2]
  have : ∀ (j k : Fin 16), clearByte ((BitVec.ofNat 32 j.val ||| BitVec.ofNat 32 k.val <<< 4).setWidth 8)
      = (BitVec.ofNat 32 (if j.val = 8 then 0 else j.val) ||| BitVec.ofNat 32 (if k.val = 8 then 0 else k.val) <<< 4).setWidth 8 := by decide
  exact this ⟨j, hj⟩ ⟨k, hk'⟩

/-- What is stored of a block, byte by byte. -/
theorem stored_apply (q : FVec Ideal S128x128 .f32) (l : Fin 128) (c : Fin 64) :
    stored q (ix2 l c) = byteK (q (ix2 ⟨c.val * 2, by omega⟩ l)) (q (ix2 ⟨c.val * 2 + 1, by omega⟩ l)) := by
  unfold stored
  pointwise
  refine (cleared_apply _ c l).trans ?_
  rw [paired_apply, nibbles_apply, nibbles_apply]
  rfl

end Cert.KernelIdeal.Main

end
-- ==== Proof.Main.Tile.lean ====
/- One grid step's codes and scales, entry by entry: the stores' contents as functions of the step's values. -/
module

public import Idealize.ShloMosaic.Lib.Pointwise
public import Idealize.ShloMosaic.Lib.BitcastFour
public import Idealize.ShloMosaic.Lib.BitcastPair
public import proofs.«01_k».proof.Proof.Main.Ops
public import proofs.«01_k».proof.Proof.Main.Codes
public import proofs.«01_k».proof.Proof.Main.Blocks
public import proofs.«01_k».proof.Proof.Main.Settle
public import Idealize.ShloMosaic.Lib.Pipeline.CanonAppend

@[expose] public section

noncomputable section

namespace Cert.KernelIdeal.Main

open Idealize.ShloMosaic
open Cert.KernelIdeal.Gen
open Cert.Quant

/-- The largest magnitude of sixteen values. -/
def max16 (f : Fin 16 → EReal) : EReal :=
  max (max (max (max (max (max (max (max (max (max (max (max (max (max (max (max (f 0) (-f 0)) (max (f 1) (-f 1))) (max (f 2) (-f 2)))
    (max (f 3) (-f 3))) (max (f 4) (-f 4))) (max (f 5) (-f 5))) (max (f 6) (-f 6))) (max (f 7) (-f 7))) (max (f 8) (-f 8))) (max (f 9) (-f 9)))
    (max (f 10) (-f 10))) (max (f 11) (-f 11))) (max (f 12) (-f 12))) (max (f 13) (-f 13))) (max (f 14) (-f 14))) (max (f 15) (-f 15))

/-- A group's scale before zero is replaced, from its largest magnitude and the global scale. -/
def roundedE (a g : EReal) : EReal :=
  min (Ideal.ofBits .f32 0x43E00000#32) (max (Ideal.ofBits .f32 0x00000000#32) (Ideal.div (a * Ideal.ofBits .f32 0x3F800800#32) (Ideal.ofBits .f32 0x40C00000#32 * g)))

/-- A group's scale. -/
def scaleE (a g : EReal) : EReal :=
  Scalar.select (Ideal.cmp .oeq (roundedE a g) (Ideal.ofBits .f32 0x00000000#32)) (Ideal.ofBits .f32 0x3F800000#32) (roundedE a g)

/-- The reciprocal a group's members are multiplied by. -/
def recipE (s g : EReal) : EReal := Ideal.div (Ideal.ofBits .f32 0x3F800000#32) (s * g)

/-- Half `k` of the step's rows, turned. -/
def turn (k : Fin 2) (y : FVec Ideal S256x512 .f32) : Vec Ideal S512x128 .f32 := fun z =>
  y (ix2 ⟨128 * k.val + (z 1).val, by have : (z 1).val < 128 := (z 1).isLt; omega⟩ (z 0))

/-- A stored slice is part of the turned half. -/
theorem turned_piece (k : Fin 2) (y : FVec Ideal S256x512 .f32) (o : Fin 2 → ℕ) (h : S256x512.Slices o S128x128) (off : Fin 2 → ℕ)
    (inb : ∀ a, off a + S128x128.size a ≤ S512x128.size a) (h0 : o 0 = 128 * k.val) (h1 : off 0 = o 1) (h2 : off 1 = 0) (x : S128x128.Idx) :
    turned o h y x = turn k y ((Rect.unit (s := S512x128) off S128x128.size inb).emb x) := by
  obtain ⟨r, l, rfl⟩ : ∃ r l, x = ix2 r l := ⟨x 0, x 1, eq_ix2 x⟩
  exact turned_apply o h y r l _ _ (by show 128 * k.val + (off 1 + 1 * l.val) = _; omega) (by show off 0 + 1 * r.val = _; omega)

/-- The turned values after the first half. -/
theorem canon_turned0 (y : FVec Ideal S256x512 .f32) : View.canon (turned0 y) = turn 0 y :=
  funext fun z => View.canon_apply_of_pieces (turn 0 y) (turned0 y) (by
    intro p hp
    simp only [turned0, List.mem_cons, List.not_mem_nil, or_false] at hp
    rcases hp with rfl | rfl | rfl | rfl
    · exact turned_piece 0 y ![0, 384] slices_S256x512_o0_384_S128x128 ![384, 0] inb_S512x128_S128x128_384_0 rfl rfl rfl
    · exact turned_piece 0 y ![0, 256] slices_S256x512_o0_256_S128x128 ![256, 0] inb_S512x128_S128x128_256_0 rfl rfl rfl
    · exact turned_piece 0 y ![0, 128] slices_S256x512_o0_128_S128x128 ![128, 0] inb_S512x128_S128x128_128_0 rfl rfl rfl
    · exact turned_piece 0 y ![0, 0] slices_S256x512_o0_0_S128x128 ![0, 0] inb_S512x128_S128x128_0_0 rfl rfl rfl) z
    (View.cover_of_tiledL (turned0 y) S128x128.size (by sl_kernel_rfl) z)

/-- What the second half stores of the turned values. -/
def turned1' (y : FVec Ideal S256x512 .f32) : List (View.Piece (Elt Ideal) S512x128 .f32) :=
  [⟨Rect.unit ![384, 0] S128x128.size inb_S512x128_S128x128_384_0, turned ![128, 384] slices_S256x512_o128_384_S128x128 y⟩,
    ⟨Rect.unit ![256, 0] S128x128.size inb_S512x128_S128x128_256_0, turned ![128, 256] slices_S256x512_o128_256_S128x128 y⟩,
    ⟨Rect.unit ![128, 0] S128x128.size inb_S512x128_S128x128_128_0, turned ![128, 128] slices_S256x512_o128_128_S128x128 y⟩,
    ⟨Rect.unit ![0, 0] S128x128.size inb_S512x128_S128x128_0_0, turned ![128, 0] slices_S256x512_o128_0_S128x128 y⟩]

/-- The turned values after the second half. -/
theorem canon_turned1 (y : FVec Ideal S256x512 .f32) : View.canon (turned1 y) = turn 1 y :=
  by
  rw [show turned1 y = turned1' y ++ turned0 y from rfl]
  exact funext fun z => View.canon_append_of_pieces (turn 1 y) (turned0 y) (turned1' y) (by
    intro p hp
    simp only [turned1', List.mem_cons, List.not_mem_nil, or_false] at hp
    rcases hp with rfl | rfl | rfl | rfl
    · exact turned_piece 1 y ![128, 384] slices_S256x512_o128_384_S128x128 ![384, 0] inb_S512x128_S128x128_384_0 rfl rfl rfl
    · exact turned_piece 1 y ![128, 256] slices_S256x512_o128_256_S128x128 ![256, 0] inb_S512x128_S128x128_256_0 rfl rfl rfl
    · exact turned_piece 1 y ![128, 128] slices_S256x512_o128_128_S128x128 ![128, 0] inb_S512x128_S128x128_128_0 rfl rfl rfl
    · exact turned_piece 1 y ![128, 0] slices_S256x512_o128_0_S128x128 ![0, 0] inb_S512x128_S128x128_0_0 rfl rfl rfl) z
    (View.cover_of_tiledL (turned1' y) S128x128.size (by sl_kernel_rfl) z)

/-- The scale of one group, read off the turned values. -/
theorem scales_apply (L : List (View.Piece (Elt Ideal) S512x128 .f32)) (g : EReal) (G : Fin 32) (i : Fin 128) :
    scales lastOver L g (ix2 G i) = scaleE (max16 fun j => View.canon L (ix2 ⟨16 * G.val + j.val, by omega⟩ i)) g := by
  have h : ∀ j : Fin 16, lastOver L ⟨![j.val, 0], S32x128.size, ![16, 1], inb_every j⟩ (ix2 G i) = View.canon L (ix2 ⟨16 * G.val + j.val, by omega⟩ i) := fun j => by
    refine congrArg (View.canon L) (funext fun d => Fin.ext ?_)
    fin_cases d
    · show j.val + 16 * G.val = 16 * G.val + j.val; omega
    · show 0 + 1 * i.val = i.val; omega
  simp only [← h]
  rfl

/-- The reciprocals are the last stored. -/
theorem canon_recips0 (y : FVec Ideal S256x512 .f32) (g : EReal) : View.canon (recips0 lastOver y g) = recipOf (scales lastOver (turned0 y) g) g :=
  View.canon_cons_unit_zero (S := S32x128) (by funext d; fin_cases d <;> rfl) _ _ []

theorem canon_recips1 (y : FVec Ideal S256x512 .f32) (g : EReal) : View.canon (recips1 lastOver y g) = recipOf (scales lastOver (turned1 y) g) g :=
  View.canon_cons_unit_zero (S := S32x128) (by funext d; fin_cases d <;> rfl) _ _ _

/-- One reciprocal. -/
theorem recipOf_apply (s : FVec Ideal S32x128 .f32) (g : EReal) (G : Fin 32) (i : Fin 128) : recipOf s g (ix2 G i) = recipE (s (ix2 G i)) g := by
  pointwise [recipOf, recipE]

/-- One entry of a scaled block. -/
theorem block_apply (L : List (View.Piece (Elt Ideal) S512x128 .f32)) (R : List (View.Piece (Elt Ideal) S32x128 .f32)) (b : Fin 4) (r l : Fin 128) :
    block lastOver lastOver L R b (ix2 r l)
      = View.canon L (ix2 ⟨128 * b.val + r.val, by omega⟩ l) * View.canon R (ix2 ⟨(128 * b.val + r.val) / 16, by omega⟩ l) := by
  unfold block
  rw [stacked_apply, scaledRows_apply]
  refine congrArg₂ (· * ·) (congrArg (View.canon L) (funext fun d => Fin.ext ?_)) (congrArg (View.canon R) (funext fun d => Fin.ext ?_))
  · fin_cases d
    · show b.val * 128 + r.val / 16 * 16 + 1 * (r.val % 16) = 128 * b.val + r.val; omega
    · show 0 + 1 * l.val = l.val; omega
  · fin_cases d
    · show b.val * 8 + r.val / 16 + 1 * 0 = (128 * b.val + r.val) / 16; omega
    · show 0 + 1 * l.val = l.val; omega

/-- The largest magnitude of group `G` of row `r` of a step's values. -/
def groupOf (y : FVec Ideal S256x512 .f32) (r : Fin 256) (G : Fin 32) : EReal := max16 fun j => y (ix2 r ⟨16 * G.val + j.val, by omega⟩)

/-- A value as the quantiser sees it: times its group's reciprocal. -/
def quotK (y : FVec Ideal S256x512 .f32) (g : EReal) (r : Fin 256) (l : Fin 512) : EReal :=
  y (ix2 r l) * recipE (scaleE (groupOf y r ⟨l.val / 16, by omega⟩) g) g

/-- A byte of the codes of a step, as a function of its place. -/
def codeAt (y : FVec Ideal S256x512 .f32) (g : EReal) : Vec Ideal S256x256 .i8 := fun z =>
  byteK (quotK y g (z 0) ⟨(z 1).val * 2, by have : (z 1).val < 256 := (z 1).isLt; omega⟩)
    (quotK y g (z 0) ⟨(z 1).val * 2 + 1, by have : (z 1).val < 256 := (z 1).isLt; omega⟩)

/-- One entry of a scaled block, once the buffers it is read from are known. -/
theorem block_turn (y : FVec Ideal S256x512 .f32) (g : EReal) (k : Fin 2) (L : List (View.Piece (Elt Ideal) S512x128 .f32)) (R : List (View.Piece (Elt Ideal) S32x128 .f32))
    (hL : View.canon L = turn k y) (hR : View.canon R = recipOf (scales lastOver L g) g) (b : Fin 4) (r l : Fin 128) (R' : Fin 256) (C : Fin 512)
    (h0 : R'.val = 128 * k.val + l.val) (h1 : C.val = 128 * b.val + r.val) :
    block lastOver lastOver L R b (ix2 r l) = quotK y g R' C := by
  rw [show R' = ⟨128 * k.val + l.val, by omega⟩ from Fin.ext h0, show C = ⟨128 * b.val + r.val, by omega⟩ from Fin.ext h1]
  rw [block_apply, hL, hR, recipOf_apply, scales_apply, hL]
  rfl

/-- A stored block of codes is part of the step's codes. -/
theorem code_piece (y : FVec Ideal S256x512 .f32) (g : EReal) (k : Fin 2) (L : List (View.Piece (Elt Ideal) S512x128 .f32)) (R : List (View.Piece (Elt Ideal) S32x128 .f32))
    (hL : View.canon L = turn k y) (hR : View.canon R = recipOf (scales lastOver L g) g) (b : Fin 4) (off : Fin 2 → ℕ)
    (inb : ∀ a, off a + S128x64.size a ≤ S256x256.size a) (h0 : off 0 = 128 * k.val) (h1 : off 1 = 64 * b.val) (x : S128x64.Idx) :
    stored (block lastOver lastOver L R b) x = codeAt y g ((Rect.unit (s := S256x256) off S128x64.size inb).emb x) := by
  obtain ⟨l, c, rfl⟩ : ∃ l c, x = ix2 l c := ⟨x 0, x 1, eq_ix2 x⟩
  rw [stored_apply]
  refine congrArg₂ byteK (block_turn y g k L R hL hR b _ l _ _ ?_ ?_) (block_turn y g k L R hL hR b _ l _ _ ?_ ?_)
  · show off 0 + 1 * l.val = _; omega
  · show (off 1 + 1 * c.val) * 2 = 128 * b.val + c.val * 2; omega
  · show off 0 + 1 * l.val = _; omega
  · show (off 1 + 1 * c.val) * 2 + 1 = 128 * b.val + (c.val * 2 + 1); omega

/-- The codes of a step, byte by byte. -/
theorem codesOf_eq (y : FVec Ideal S256x512 .f32) (g : EReal) : codesOf y g = codeAt y g := by
  unfold codesOf
  exact funext fun z => View.canon_apply_of_pieces (codeAt y g) (codePieces lastOver lastOver y g) (by
    intro p hp
    have c0 := canon_turned0 y
    have c1 := canon_turned1 y
    have r0 := canon_recips0 y g
    have r1 := canon_recips1 y g
    simp only [codePieces, List.mem_cons, List.not_mem_nil, or_false] at hp
    rcases hp with rfl | rfl | rfl | rfl | rfl | rfl | rfl | rfl
    · exact code_piece y g 1 _ _ c1 r1 3 ![128, 192] inb_S256x256_S128x64_128_192 rfl rfl
    · exact code_piece y g 1 _ _ c1 r1 2 ![128, 128] inb_S256x256_S128x64_128_128 rfl rfl
    · exact code_piece y g 1 _ _ c1 r1 1 ![128, 64] inb_S256x256_S128x64_128_64 rfl rfl
    · exact code_piece y g 1 _ _ c1 r1 0 ![128, 0] inb_S256x256_S128x64_128_0 rfl rfl
    · exact code_piece y g 0 _ _ c0 r0 3 ![0, 192] inb_S256x256_S128x64_0_192 rfl rfl
    · exact code_piece y g 0 _ _ c0 r0 2 ![0, 128] inb_S256x256_S128x64_0_128 rfl rfl
    · exact code_piece y g 0 _ _ c0 r0 1 ![0, 64] inb_S256x256_S128x64_0_64 rfl rfl
    · exact code_piece y g 0 _ _ c0 r0 0 ![0, 0] inb_S256x256_S128x64_0_0 rfl rfl) z
    (cover_codes lastOver lastOver y g z)

/-- A scale of a step, as a function of its place. -/
def scaleAt (y : FVec Ideal S256x512 .f32) (g : EReal) : Vec Ideal S1x256x32 .fp8e4m3 := fun z => scaleE (groupOf y (z 1) (z 2)) g

/-- A stored half of the scales is part of the step's scales. -/
theorem scale_turn (y : FVec Ideal S256x512 .f32) (g : EReal) (k : Fin 2) (L : List (View.Piece (Elt Ideal) S512x128 .f32)) (hL : View.canon L = turn k y)
    (G : Fin 32) (i : Fin 128) (z : S1x256x32.Idx) (h1 : (z 1).val = 128 * k.val + i.val) (h2 : (z 2).val = G.val) :
    scales lastOver L g (ix2 G i) = scaleAt y g z := by
  rw [scales_apply, hL]
  show _ = scaleE (groupOf y (z 1) (z 2)) g
  rw [show z 2 = G from Fin.ext h2, show z 1 = (⟨128 * k.val + i.val, by omega⟩ : Fin 256) from Fin.ext h1]
  rfl

theorem scalesOf_eq (y : FVec Ideal S256x512 .f32) (g : EReal) : scalesOf y g = scaleAt y g := by
  unfold scalesOf
  exact funext fun z => View.canon_apply_of_pieces (scaleAt y g) (scalePieces lastOver y g) (by
    intro p hp
    simp only [scalePieces, List.mem_cons, List.not_mem_nil, or_false] at hp
    rcases hp with rfl | rfl
    · intro x
      obtain ⟨a, i, G, rfl⟩ : ∃ a i G, x = ix3 a i G := ⟨x 0, x 1, x 2, eq_ix3 x⟩
      refine Eq.trans ?_ (scale_turn y g 1 _ (canon_turned1 y) G i _ (by show 128 + 1 * i.val = 128 * 1 + i.val; omega) (by show 0 + 1 * G.val = G.val; omega))
      show k0_pay305 _ (ix3 a i G) = _
      pointwise [k0_pay305]
    · intro x
      obtain ⟨a, i, G, rfl⟩ : ∃ a i G, x = ix3 a i G := ⟨x 0, x 1, x 2, eq_ix3 x⟩
      refine Eq.trans ?_ (scale_turn y g 0 _ (canon_turned0 y) G i _ (by show 0 + 1 * i.val = 128 * 0 + i.val; omega) (by show 0 + 1 * G.val = G.val; omega))
      show k0_pay254 _ (ix3 a i G) = _
      pointwise [k0_pay254]) z
    (cover_scales lastOver y g z)

end Cert.KernelIdeal.Main

end
-- ==== Proof.Main.Spec.lean ====
/- The result as functions of the main call's arguments; and a tile's weights, activations and low-rank rows, place by place. -/
module

public import Idealize.ShloMosaic.Lib.Pointwise
public import Idealize.ShloMosaic.Lib.BitcastFour
public import Idealize.ShloMosaic.Lib.BitcastPair
public import proofs.«01_k».proof.Proof.Main.Ops
public import proofs.«01_k».proof.Proof.Main.Codes
public import proofs.«01_k».proof.Proof.Main.Blocks
public import proofs.«01_k».proof.Proof.Main.Settle
public import proofs.«01_k».proof.Proof.Main.Tile
public import Idealize.ShloMosaic.Lib.Pipeline.CanonAppend

@[expose] public section

noncomputable section

namespace Cert.KernelIdeal.Main

open Idealize.ShloMosaic
open Cert.KernelIdeal.Gen
open Cert.Quant

/-- Half `h` of a byte, as a word: the low half first. -/
def nib (b : BitVec 8) (h : ℕ) : BitVec 32 :=
  if h = 0 then b.setWidth 32 &&& 15#32 else IntOp.shrsi .vector (b.setWidth 32) 4#32

/-- Twice the kernel's magnitude of a four-bit code. -/
def magI (c : BitVec 32) : BitVec 32 :=
  IntOp.maxsi (IntOp.maxsi (IntOp.andi c 7#32) (IntOp.subi (IntOp.muli 2#32 (IntOp.andi c 7#32)) 4#32)) (IntOp.subi (IntOp.muli 4#32 (IntOp.andi c 7#32)) 16#32)

/-- The kernel's value of a four-bit code. -/
def decK (c : BitVec 32) : EReal :=
  (((magI c).toInt : ℝ) : EReal)
    * Scalar.select (IntOp.cmpi .sgt c 7#32) (Ideal.ofBits .f32 0xBF000000#32) (Ideal.ofBits .f32 0x3F000000#32)

/-- Whether bit `b` of a code is set. -/
def bitR (c b : BitVec 32) : BitVec 1 := IntOp.cmpi .ne (IntOp.andi c b) 0#32

/-- The reference's magnitude of a four-bit code. -/
def decMag (c : BitVec 32) : EReal :=
  Scalar.select (bitR c 4#32)
    (Scalar.select (bitR c 2#32) (Scalar.select (bitR c 1#32) (Ideal.ofBits .f32 0x40C00000#32) (Ideal.ofBits .f32 0x40800000#32))
      (Scalar.select (bitR c 1#32) (Ideal.ofBits .f32 0x40400000#32) (Ideal.ofBits .f32 0x40000000#32)))
    (Scalar.select (bitR c 2#32) (Scalar.select (bitR c 1#32) (Ideal.ofBits .f32 0x3FC00000#32) (Ideal.ofBits .f32 0x3F800000#32))
      (Scalar.select (bitR c 1#32) (Ideal.ofBits .f32 0x3F000000#32) (Ideal.ofBits .f32 0x00000000#32)))

/-- The reference's value of a four-bit code. -/
def decR (c : BitVec 32) : EReal := Scalar.select (bitR c 8#32) (Ideal.ofBits .f32 0x00000000#32 - decMag c) (decMag c)

/-- Half a byte is below sixteen. -/
theorem nib_lt (b : BitVec 8) (h : ℕ) : ∃ k : Fin 16, nib b h = BitVec.ofNat 32 k.val := by
  by_cases e : h = 0
  · have : ∀ b : BitVec 8, ∃ k : Fin 16, b.setWidth 32 &&& 15#32 = BitVec.ofNat 32 k.val := by
      intro b; obtain ⟨n, rfl⟩ : ∃ n : Fin 256, b = BitVec.ofFin n := ⟨b.toFin, rfl⟩
      revert n; decide
    simpa [nib, e] using this b
  · have : ∀ b : BitVec 8, ∃ k : Fin 16, IntOp.shrsi .vector (b.setWidth 32) 4#32 = BitVec.ofNat 32 k.val := by
      intro b; obtain ⟨n, rfl⟩ : ∃ n : Fin 256, b = BitVec.ofFin n := ⟨b.toFin, rfl⟩
      revert n; decide
    simpa [nib, e] using this b

theorem c_one : Ideal.ofBits .f32 0x3F800000#32 = ((1 : ℝ) : EReal) := by
  simp [Ideal.ofBits, Ideal.ieee, -EReal.coe_mul]; norm_num

theorem c_zero : Ideal.ofBits .f32 0x00000000#32 = ((0 : ℝ) : EReal) := by
  simp [Ideal.ofBits, Ideal.ieee]

/-- The two values of a four-bit code are one. -/
theorem dec_eq (k : Fin 16) : decK (BitVec.ofNat 32 k.val) = decR (BitVec.ofNat 32 k.val) := by
  have hm : ∀ k : Fin 16, (magI (BitVec.ofNat 32 k.val)).toInt = (![0, 1, 2, 3, 4, 6, 8, 12, 0, 1, 2, 3, 4, 6, 8, 12] : Fin 16 → ℤ) k := by decide
  have hs : ∀ k : Fin 16, IntOp.cmpi .sgt (BitVec.ofNat 32 k.val) 7#32 = BitVec.ofBool (decide (8 ≤ k.val)) := by decide
  have h1 : ∀ k : Fin 16, bitR (BitVec.ofNat 32 k.val) 1#32 = BitVec.ofBool (decide (k.val % 2 = 1)) := by decide
  have h2 : ∀ k : Fin 16, bitR (BitVec.ofNat 32 k.val) 2#32 = BitVec.ofBool (decide (k.val / 2 % 2 = 1)) := by decide
  have h4 : ∀ k : Fin 16, bitR (BitVec.ofNat 32 k.val) 4#32 = BitVec.ofBool (decide (k.val / 4 % 2 = 1)) := by decide
  have h8 : ∀ k : Fin 16, bitR (BitVec.ofNat 32 k.val) 8#32 = BitVec.ofBool (decide (8 ≤ k.val)) := by decide
  unfold decK decR decMag
  rw [hm, hs, h1, h2, h4, h8, Cert.Quant.c_neg_half, Cert.Quant.c_half, Cert.Quant.c_six, Cert.Quant.c_four, Cert.Quant.c_three, Cert.Quant.c_two, Cert.Quant.c_three_halves, c_one, c_zero]
  clear hm hs h1 h2 h4 h8
  fin_cases k <;> simp [Scalar.select, ← EReal.coe_mul, ← EReal.coe_sub, -EReal.coe_mul, -EReal.coe_sub] <;> rw [← EReal.coe_mul] <;>
    norm_num [-EReal.coe_mul]

/-- The main call's arguments as functions of their places. -/
structure Args where
  X : Fin 1536 → Fin 3072 → EReal
  H : Fin 1536 → Fin 48 → EReal
  xg : EReal
  WP : Fin 1536 → Fin 9216 → BitVec 8
  WS : Fin 192 → Fin 9216 → EReal
  wg : EReal
  LU : Fin 48 → Fin 9216 → EReal
  B : Fin 9216 → EReal
  SN : Fin 9216 → EReal
  yg : EReal
  LD : Fin 9216 → Fin 48 → EReal

/-- The approximate GELU. -/
def geluE (y : EReal) : EReal :=
  y * (Ideal.ofBits .f32 0x3F000000#32 * (1
    + Ideal.tanh (Ideal.ofBits .f32 0x3F4C422A#32 * (y + Ideal.ofBits .f32 0x3D372713#32 * (y * (y * y))))))

namespace Args

variable (A : Args)

/-- A weight: its code's value times its group's scale. -/
def w (k : Fin 3072) (n : Fin 9216) : EReal :=
  decR (nib (A.WP ⟨k.val / 2, by omega⟩ n) (k.val % 2)) * A.WS ⟨k.val / 16, by omega⟩ n

/-- The layer before its activation. -/
def y (r : Fin 1536) (n : Fin 9216) : EReal :=
  (∑ k : Fin 3072, A.X r k * A.w k n) * (A.xg * A.wg) + (∑ j : Fin 48, A.H r j * A.LU j n) + A.B n

/-- The activation, smoothed for the next layer. -/
def sm (r : Fin 1536) (n : Fin 9216) : EReal := geluE (A.y r n) * A.SN n

/-- The scale of group `G` of row `r`. -/
def scale (r : Fin 1536) (G : Fin 576) : EReal := scaleE (max16 fun j => A.sm r ⟨16 * G.val + j.val, by omega⟩) A.yg

/-- A smoothed activation divided by its group's scale. -/
def quot (r : Fin 1536) (n : Fin 9216) : EReal := Ideal.div (A.sm r n) (A.scale r ⟨n.val / 16, by omega⟩ * A.yg)

/-- A byte of the result's codes. -/
def code (r : Fin 1536) (c : Fin 4608) : BitVec 8 := byteR (A.quot r ⟨c.val * 2, by omega⟩) (A.quot r ⟨c.val * 2 + 1, by omega⟩)

/-- The next layer's low-rank rows. -/
def hn (r : Fin 1536) (j : Fin 48) : EReal := ∑ n : Fin 9216, A.sm r n * A.LD n j

end Args

/-- The largest magnitude of sixteen values, as a fold. -/
theorem fold_max16 (f : Fin 16 → EReal) : Finset.univ.fold max ⊥ (fun k => max (f k) (-f k)) = max16 f := by
  show Finset.univ.sup (fun k => max (f k) (-f k)) = max16 f
  refine le_antisymm (Finset.sup_le fun i _ => ?_) ?_
  · obtain ⟨M, hM⟩ : ∃ M, M = max16 f := ⟨_, rfl⟩
    rw [← hM]
    have h := hM.ge
    unfold max16 at h
    simp only [max_le_iff] at h
    fin_cases i <;> simp only [Fin.zero_eta, Fin.mk_one, Fin.reduceFinMk, max_le_iff, h, and_self]
  · unfold max16
    have h : ∀ k, max (f k) (-f k) ≤ Finset.univ.sup (fun k => max (f k) (-f k)) := fun k => Finset.le_sup (f := fun k => max (f k) (-f k)) (Finset.mem_univ k)
    repeat' first | exact h _ | refine max_le ?_ ?_

/-- The approximate GELU with its cube grouped the other way. -/
theorem gelu_eq (y : EReal) : y * (Ideal.ofBits .f32 0x3F000000#32 * (1
    + Ideal.tanh (Ideal.ofBits .f32 0x3F4C422A#32 * (y + Ideal.ofBits .f32 0x3D372713#32 * (y * y * y))))) = geluE y := by
  unfold geluE; rw [mul_comm (y * y) y]

/-- The kernel's weights of a column tile, before they are laid out. -/
def weightE (x3 : Vec Ideal S1536x512 .i8) (x4 : Vec Ideal S192x512 .fp8e4m3) : Vec Ideal S3072x512 .bf16 := fun z =>
  decR (nib (x3 (ix2 (⟨(z 0).val / 2, by have := (z 0).isLt; change _ < 3072 at this; omega⟩ : Fin 1536) (z 1))) ((z 0).val % 2)) * x4 (ix2 (⟨(z 0).val / 16, by have := (z 0).isLt; change _ < 3072 at this; omega⟩ : Fin 192) (z 1))

theorem decoded_apply (b : Vec Ideal S32x512 .i8) (k : Fin 64) (n : Fin 512) :
    decoded b (ix2 k n) = decR (nib (b (ix2 ⟨k.val / 2, by omega⟩ n)) (k.val % 2)) := by
  obtain ⟨c, hc⟩ := nib_lt (b (ix2 ⟨k.val / 2, by omega⟩ n)) (k.val % 2)
  rw [hc, ← dec_eq, ← hc]
  unfold decoded
  pointwise [k0_pay2]
  by_cases h : k.val % 2 = 0
  · simp only [h, nib, Nat.zero_lt_one, dite_true, if_true]; rfl
  · have h' : ¬ k.val % 2 < 1 := by omega
    simp only [h, h', nib, dite_false, if_false]; rfl

theorem weighted_apply (w : FVec Ideal S64x512 .bf16) (s : Fin 4 → Vec Ideal S1x512 .f32) (k : Fin 64) (n : Fin 512) :
    weighted w s (ix2 k n) = w (ix2 k n) * s ⟨k.val / 16, by omega⟩ (ix2 0 n) := by
  unfold weighted
  pointwise [k0_pay3]
  congr 1
  have hk := k.isLt
  split_ifs with h0 h1 h2
  · rw [show (⟨k.val / 16, by omega⟩ : Fin 4) = 0 from Fin.ext (by show k.val / 16 = 0; omega)]
  · rw [show (⟨k.val / 16, by omega⟩ : Fin 4) = 1 from Fin.ext (by show k.val / 16 = 1; omega)]
  · rw [show (⟨k.val / 16, by omega⟩ : Fin 4) = 2 from Fin.ext (by show k.val / 16 = 2; omega)]
  · rw [show (⟨k.val / 16, by omega⟩ : Fin 4) = 3 from Fin.ext (by show k.val / 16 = 3; omega)]

theorem kept_apply (x4 : Vec Ideal S192x512 .fp8e4m3) : View.canon (scalesKept x4) = (k0_pay1 x4 : Vec Ideal S192x512 .f32) := by
  unfold scalesKept
  exact View.canon_cons_unit_zero (S := S192x512) (by funext d; fin_cases d <;> rfl) _ _ _

theorem pay1_apply (x4 : Vec Ideal S192x512 .fp8e4m3) (k : Fin 192) (n : Fin 512) : (k0_pay1 x4 : Vec Ideal S192x512 .f32) (ix2 k n) = x4 (ix2 k n) := by
  pointwise [k0_pay1]

theorem weightRows_apply (x3 : Vec Ideal S1536x512 .i8) (x4 : Vec Ideal S192x512 .fp8e4m3) (k : Fin 48) (x : S64x512.Idx) :
    weightRows (fun B j => x3 (B.idx j)) lastOver x4 k x = weightE x3 x4 ((weightRect k).emb x) := by
  obtain ⟨a, n, rfl⟩ : ∃ a n, x = ix2 a n := ⟨x 0, x 1, eq_ix2 x⟩
  have ha := a.isLt
  have hk := k.isLt
  unfold weightRows weightE
  rw [weighted_apply, decoded_apply]
  have e0 : (((weightRect k).emb (ix2 a n)) 0).val = k.val * 64 + a.val := by
    show k.val * 64 + 1 * a.val = _; omega
  have e1 : ((weightRect k).emb (ix2 a n)) 1 = n := Fin.ext (by show 0 + 1 * n.val = _; omega)
  have hs : lastOver (F := Ideal) (scalesKept x4) (Rect.unit (s := S192x512) ![k.val * 4 + a.val / 16, 0] S1x512.size (inb_scale k ⟨a.val / 16, by omega⟩)).toLoadRect (ix2 0 n)
      = x4 (ix2 ⟨k.val * 4 + a.val / 16, by omega⟩ n) := by
    show View.canon (scalesKept x4) _ = _
    rw [kept_apply, ← pay1_apply x4]
    congr 1
    funext d; fin_cases d
    · exact Fin.ext (by show k.val * 4 + a.val / 16 + 1 * 0 = k.val * 4 + a.val / 16; omega)
    · exact Fin.ext (by show 0 + 1 * n.val = n.val; omega)
  refine congrArg₂ (· * ·) (congrArg decR (congrArg₂ nib ?_ ?_)) (hs.trans ?_)
  · refine congrArg x3 ?_
    funext d; fin_cases d
    · exact Fin.ext (by show k.val * 32 + 1 * (a.val / 2) = (((weightRect k).emb (ix2 a n)) 0).val / 2; rw [e0]; omega)
    · exact Fin.ext (by show 0 + 1 * n.val = (((weightRect k).emb (ix2 a n)) 1).val; rw [e1]; omega)
  · rw [e0]; omega
  · refine congrArg x4 ?_
    funext d; fin_cases d
    · exact Fin.ext (by show k.val * 4 + a.val / 16 = (((weightRect k).emb (ix2 a n)) 0).val / 16; rw [e0]; omega)
    · exact e1.symm

/-- The weights of a column tile are each its code's value times its group's scale. -/
theorem weightsOf_eq (x3 : Vec Ideal S1536x512 .i8) (x4 : Vec Ideal S192x512 .fp8e4m3) : weightsOf x3 x4 = weightE x3 x4 := by
  unfold weightsOf
  exact funext fun z => View.canon_apply_of_pieces (weightE x3 x4) (weightPieces (fun B j => x3 (B.idx j)) lastOver x4) (by
      intro p hp x
      obtain ⟨k, -, rfl⟩ := List.mem_map.mp hp
      exact weightRows_apply x3 x4 k x) z
    (cover_weights _ _ _ z)

/-- A tile's activations. -/
theorem act_apply (g0 g1 : EReal) (x : Vec Ideal S256x3072 .bf16) (w : Vec Ideal S3072x512 .bf16) (h : Vec Ideal S256x48 .bf16) (lu : Vec Ideal S48x512 .bf16) (b : Vec Ideal S1x512 .f32) (r : Fin 256) (l : Fin 512) :
    k0_pay205 (F := Ideal) g0 g1 x w h lu b (ix2 r l)
      = geluE ((∑ k, x (ix2 r k) * w (ix2 k l)) * (g0 * g1) + ∑ j, h (ix2 r j) * lu (ix2 j l) + b (ix2 0 l)) := by
  pointwise [k0_pay205]
  exact gelu_eq _

theorem smooth_apply (a : FVec Ideal S256x512 .f32) (s : Vec Ideal S1x512 .f32) (r : Fin 256) (l : Fin 512) :
    k0_pay207 (F := Ideal) a s (ix2 r l) = a (ix2 r l) * s (ix2 0 l) := by
  pointwise [k0_pay207]

/-- What the first column tile leaves of a row tile's low-rank rows. -/
theorem rows_first (a : FVec Ideal S256x512 .f32) (s : Vec Ideal S1x512 .f32) (ld : Vec Ideal S512x48 .bf16) (r : Fin 256) (j : Fin 48) :
    k0_pay208 (F := Ideal) a s ld (ix2 r j) = ∑ n, a (ix2 r n) * s (ix2 0 n) * ld (ix2 n j) := by
  pointwise [k0_pay208, k0_pay207]

/-- What a later column tile adds to them. -/
theorem rows_next (a : FVec Ideal S256x512 .f32) (s : Vec Ideal S1x512 .f32) (ld : Vec Ideal S512x48 .bf16) (b : Vec Ideal S256x48 .f32) (r : Fin 256) (j : Fin 48) :
    k0_pay209 (F := Ideal) a s ld b (ix2 r j) = b (ix2 r j) + ∑ n, a (ix2 r n) * s (ix2 0 n) * ld (ix2 n j) := by
  pointwise [k0_pay209, k0_pay208, k0_pay207]

end Cert.KernelIdeal.Main

end
-- ==== Proof.Main.Results.lean ====
/- The main call's results as whole arrays, of its arguments. -/
module

public import Idealize.ShloMosaic.Lib.Pointwise
public import Idealize.ShloMosaic.Lib.BitcastFour
public import Idealize.ShloMosaic.Lib.BitcastPair
public import proofs.«01_k».proof.Proof.Main.Ops
public import proofs.«01_k».proof.Proof.Main.Codes
public import proofs.«01_k».proof.Proof.Main.Blocks
public import proofs.«01_k».proof.Proof.Main.Settle
public import proofs.«01_k».proof.Proof.Main.Tile
public import proofs.«01_k».proof.Proof.Main.Spec
public import Idealize.ShloMosaic.Lib.Pipeline.CanonAppend

@[expose] public section

noncomputable section

namespace Cert.KernelIdeal.Main

open Idealize.ShloMosaic
open Cert.KernelIdeal.Gen
open Cert.Quant

/-- The one entry of an array without axes. -/
def only (x : Vec Ideal ⟨0, ![]⟩ .f32) : EReal := x fun a => a.elim0

/-- The main call's arguments, as its caller passes them. -/
def argsOf (X : Vec Ideal ⟨2, ![1536, 3072]⟩ .bf16) (H : Vec Ideal ⟨2, ![1536, 48]⟩ .bf16) (xg : Vec Ideal ⟨0, ![]⟩ .f32) (WP : Vec Ideal ⟨2, ![1536, 9216]⟩ .i8) (WS : Vec Ideal ⟨2, ![192, 9216]⟩ .fp8e4m3)
    (wg : Vec Ideal ⟨0, ![]⟩ .f32) (LU : Vec Ideal ⟨2, ![48, 9216]⟩ .bf16) (B : Vec Ideal ⟨1, ![9216]⟩ .f32) (SN : Vec Ideal ⟨1, ![9216]⟩ .f32) (yg : Vec Ideal ⟨0, ![]⟩ .f32) (LD : Vec Ideal ⟨2, ![9216, 48]⟩ .bf16) : Args where
  X r k := X (ix2 r k)
  H r j := H (ix2 r j)
  xg := only xg
  WP a n := WP (ix2 a n)
  WS a n := WS (ix2 a n)
  wg := only wg
  LU j n := LU (ix2 j n)
  B n := B (ix1 n)
  SN n := SN (ix1 n)
  yg := only yg
  LD n j := LD (ix2 n j)

/-- The result's activations. -/
def resAct (A : Args) : Vec Ideal ⟨2, ![1536, 9216]⟩ .bf16 := fun z => geluE (A.y (z 0) (z 1))

/-- The next layer's low-rank rows. -/
def resHidden (A : Args) : Vec Ideal ⟨2, ![1536, 48]⟩ .f32 := fun z => A.hn (z 0) (z 1)

/-- The result's codes, two to a byte. -/
def resCodes (A : Args) : Vec Ideal ⟨2, ![1536, 4608]⟩ .i8 := fun z => A.code (z 0) (z 1)

/-- Group `G` of column tile `n`, among all groups. -/
def groupAt (n : Fin 18) (G : Fin 32) : Fin 576 := ⟨n.val * 32 + G.val, by omega⟩

/-- The result's scales, by column tile. -/
def resScales (A : Args) : Vec Ideal ⟨3, ![18, 1536, 32]⟩ .fp8e4m3 := fun z => A.scale (z 1) (groupAt (z 0) (z 2))

end Cert.KernelIdeal.Main

end
-- ==== Proof.Main.Inputs.lean ====
/- What each window of the main call reads, of the arguments in memory, and a tile's activations in their terms. -/
module

public import Idealize.ShloMosaic.Lib.Pointwise
public import Idealize.ShloMosaic.Lib.BitcastFour
public import Idealize.ShloMosaic.Lib.BitcastPair
public import proofs.«01_k».proof.Proof.Main.Ops
public import proofs.«01_k».proof.Proof.Main.Codes
public import proofs.«01_k».proof.Proof.Main.Blocks
public import proofs.«01_k».proof.Proof.Main.Settle
public import proofs.«01_k».proof.Proof.Main.Tile
public import proofs.«01_k».proof.Proof.Main.Spec
public import proofs.«01_k».proof.Proof.Main.Results
public import proofs.«01_k».proof.Proof.Main.Frame
public import Idealize.ShloMosaic.Lib.Claim
public import Idealize.ShloMosaic.Lib.StableHlo.ReadAt
public import Idealize.ShloMosaic.Lib.StableHlo.RunRead
public import Idealize.ShloMosaic.Lib.Pipeline.ValueKit
public import Idealize.ShloMosaic.Lib.Pipeline.CanonAppend

@[expose] public section

noncomputable section

namespace Cert.KernelIdeal.Main

open Idealize.ShloMosaic
open Cert.KernelIdeal.Gen
open Cert.Quant

open Idealize.ShloMosaic.TcCoe

variable (m : (ℓ : Loc nD τ sig) → Buf (Elt Ideal) ℓ)

/-- The main call's arguments in memory. -/
def argsK (c : Dev nD) : Args :=
  argsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

/-- Row `r` of the row tile of point `t`, among all rows. -/
def rowAt (t : ℕ) (r : Fin 256) : Fin 1536 := ⟨256 * (t % 6) + r.val, by have := r.isLt; omega⟩

/-- Column `l` of column tile `n`, among all columns. -/
def colAt (n : Fin 18) (l : Fin 512) : Fin 9216 := ⟨512 * n.val + l.val, by have := l.isLt; omega⟩

/-- The column tile of a point. -/
def tileCol (t : Fin cfg0.N) : Fin 18 := ⟨t.val / 6, by have h : t.val < 108 := lt_of_lt_of_eq t.isLt (show cfg0.N = 108 from N_0); omega⟩

/-- The block every window reads or writes at a point. -/
theorem idx : ∀ t : Fin cfg0.N, win0_0.index t = ![0] ∧ win0_1.index t = ![t.val % 6, 0] ∧ win0_2.index t = ![t.val % 6, 0] ∧ win0_3.index t = ![0, t.val / 6]
    ∧ win0_4.index t = ![0, t.val / 6] ∧ win0_5.index t = ![0, t.val / 6] ∧ win0_6.index t = ![0, t.val / 6] ∧ win0_7.index t = ![0, t.val / 6] ∧ win0_8.index t = ![t.val / 6, 0]
    ∧ win0_9.index t = ![t.val % 6, t.val / 6] ∧ win0_10.index t = ![0, 0] ∧ win0_11.index t = ![t.val % 6, t.val / 6] ∧ win0_12.index t = ![t.val / 6, t.val % 6, 0] :=
  (by decide +kernel : ∀ t : Fin grid0.N, _)

theorem read_x (c : Dev nD) (t : Fin cfg0.N) (r : Fin 256) (k : Fin 3072) : iblk m c 1 t (ix2 r k) = (argsK m c).X (rowAt t.val r) k := by
  show _ = m ((c.tc : Thread nD τ).loc main_arg0) (ix2 (rowAt t.val r) k)
  unfold rowAt
  blk_ext [iblk, V_main_arg0, (idx t).2.1]

theorem read_h (c : Dev nD) (t : Fin cfg0.N) (r : Fin 256) (j : Fin 48) : iblk m c 2 t (ix2 r j) = (argsK m c).H (rowAt t.val r) j := by
  show _ = m ((c.tc : Thread nD τ).loc main_arg1) (ix2 (rowAt t.val r) j)
  unfold rowAt
  blk_ext [iblk, V_main_arg1, (idx t).2.2.1]

theorem read_wp (c : Dev nD) (t : Fin cfg0.N) (a : Fin 1536) (l : Fin 512) : iblk m c 3 t (ix2 a l) = (argsK m c).WP a (colAt (tileCol t) l) := by
  show _ = m ((c.tc : Thread nD τ).loc main_arg3) (ix2 a (colAt (tileCol t) l))
  unfold colAt tileCol
  blk_ext [iblk, V_main_arg3, (idx t).2.2.2.1]

theorem read_ws (c : Dev nD) (t : Fin cfg0.N) (a : Fin 192) (l : Fin 512) : iblk m c 4 t (ix2 a l) = (argsK m c).WS a (colAt (tileCol t) l) := by
  show _ = m ((c.tc : Thread nD τ).loc main_arg4) (ix2 a (colAt (tileCol t) l))
  unfold colAt tileCol
  blk_ext [iblk, V_main_arg4, (idx t).2.2.2.2.1]

theorem read_lu (c : Dev nD) (t : Fin cfg0.N) (j : Fin 48) (l : Fin 512) : iblk m c 5 t (ix2 j l) = (argsK m c).LU j (colAt (tileCol t) l) := by
  show _ = m ((c.tc : Thread nD τ).loc main_arg6) (ix2 j (colAt (tileCol t) l))
  unfold colAt tileCol
  blk_ext [iblk, V_main_arg6, (idx t).2.2.2.2.2.1]

theorem read_b (c : Dev nD) (t : Fin cfg0.N) (l : Fin 512) : iblk m c 6 t (ix2 0 l) = (argsK m c).B (colAt (tileCol t) l) := by
  show _ = m ((c.tc : Thread nD τ).loc main_arg7) (ix1 (colAt (tileCol t) l))
  unfold colAt tileCol
  blk_simp [iblk, (idx t).2.2.2.2.2.2.1]
  entry_read
  pointwise
  blk_ext [(idx t).2.2.2.2.2.2.1]

theorem read_sn (c : Dev nD) (t : Fin cfg0.N) (l : Fin 512) : iblk m c 7 t (ix2 0 l) = (argsK m c).SN (colAt (tileCol t) l) := by
  show _ = m ((c.tc : Thread nD τ).loc main_arg8) (ix1 (colAt (tileCol t) l))
  unfold colAt tileCol
  blk_simp [iblk, (idx t).2.2.2.2.2.2.2.1]
  entry_read
  pointwise
  blk_ext [(idx t).2.2.2.2.2.2.2.1]

theorem read_ld (c : Dev nD) (t : Fin cfg0.N) (l : Fin 512) (j : Fin 48) : iblk m c 8 t (ix2 l j) = (argsK m c).LD (colAt (tileCol t) l) j := by
  show _ = m ((c.tc : Thread nD τ).loc main_arg10) (ix2 (colAt (tileCol t) l) j)
  unfold colAt tileCol
  blk_ext [iblk, V_main_arg10, (idx t).2.2.2.2.2.2.2.2.1]

/-- The three global scales, as the call reads them. -/
theorem V_v3 (c : Dev nD) : V m c main_v3 = concatenate S3 0 [⟨S1, (broadcastInDim S1 ![] bcast_S_S1 (m ((c.tc : Thread nD τ).loc main_arg2)) : Vec Ideal S1 .f32)⟩, ⟨S1, (broadcastInDim S1 ![] bcast_S_S1 (m ((c.tc : Thread nD τ).loc main_arg5)) : Vec Ideal S1 .f32)⟩, ⟨S1, (broadcastInDim S1 ![] bcast_S_S1 (m ((c.tc : Thread nD τ).loc main_arg9)) : Vec Ideal S1 .f32)⟩] concatenates_S1_S1_S1_S3_d0 := by
  show StableHlo.after hostOps0 (fun b => m (c, b)) (Proc.tc.devRef main_v3) = _
  after_reads_simp
  rfl

theorem read_xg (c : Dev nD) (t : Fin cfg0.N) : iblk m c 0 t (ix1 0) = (argsK m c).xg := by
  show _ = only (m ((c.tc : Thread nD τ).loc main_arg2))
  have e : ((win0_0.blk t).view.emb (ix1 0) : S3.Idx) = ix1 0 := by blk_ext [(idx t).1]
  blk_simp [iblk]
  rw [e, V_v3]
  pointwise
  exact congrArg (m ((c.tc : Thread nD τ).loc main_arg2)) (funext fun a => a.elim0)

theorem read_wg (c : Dev nD) (t : Fin cfg0.N) : iblk m c 0 t (ix1 1) = (argsK m c).wg := by
  show _ = only (m ((c.tc : Thread nD τ).loc main_arg5))
  have e : ((win0_0.blk t).view.emb (ix1 1) : S3.Idx) = ix1 1 := by blk_ext [(idx t).1]
  blk_simp [iblk]
  rw [e, V_v3]
  pointwise
  exact congrArg (m ((c.tc : Thread nD τ).loc main_arg5)) (funext fun a => a.elim0)

theorem read_yg (c : Dev nD) (t : Fin cfg0.N) : iblk m c 0 t (ix1 2) = (argsK m c).yg := by
  show _ = only (m ((c.tc : Thread nD τ).loc main_arg9))
  have e : ((win0_0.blk t).view.emb (ix1 2) : S3.Idx) = ix1 2 := by blk_ext [(idx t).1]
  blk_simp [iblk]
  rw [e, V_v3]
  pointwise
  exact congrArg (m ((c.tc : Thread nD τ).loc main_arg9)) (funext fun a => a.elim0)

theorem tileCol_start (t : Fin cfg0.N) : tileCol (tileStart t.val t.isLt) = tileCol t := Fin.ext (by show 6 * (t.val / 6) / 6 = t.val / 6; omega)

/-- The weights a tile is multiplied with are its columns of the weights. -/
theorem read_w (c : Dev nD) (t : Fin cfg0.N) (k : Fin 3072) (l : Fin 512) : wAt m c t.val t.isLt (ix2 k l) = (argsK m c).w k (colAt (tileCol t) l) := by
  unfold wAt
  rw [weightsOf_eq]
  show decR (nib (iblk m c 3 (tileStart t.val t.isLt) (ix2 ⟨k.val / 2, _⟩ l)) (k.val % 2)) * iblk m c 4 (tileStart t.val t.isLt) (ix2 ⟨k.val / 16, _⟩ l) = _
  rw [read_wp, read_ws, tileCol_start]
  rfl

/-- A tile's activations are the arguments' activations there. -/
theorem read_act (c : Dev nD) (t : Fin cfg0.N) (r : Fin 256) (l : Fin 512) : act32 m c t (ix2 r l) = geluE ((argsK m c).y (rowAt t.val r) (colAt (tileCol t) l)) := by
  unfold act32
  rw [act_apply]
  simp only [read_x, read_h, read_xg, read_wg, read_w, read_lu, read_b]
  rfl

/-- … and over the smoothing factors. -/
theorem read_scaled (c : Dev nD) (t : Fin cfg0.N) (r : Fin 256) (l : Fin 512) : scaledAt m c t (ix2 r l) = (argsK m c).sm (rowAt t.val r) (colAt (tileCol t) l) := by
  unfold scaledAt
  rw [smooth_apply, read_act, read_sn]
  rfl

end Cert.KernelIdeal.Main

end
-- ==== Proof.Main.Values.lean ====
/- The main call's codes, scales and low-rank sums, tile by tile, in terms of its arguments. -/
module

public import Idealize.ShloMosaic.Lib.Pointwise
public import Idealize.ShloMosaic.Lib.BitcastFour
public import Idealize.ShloMosaic.Lib.BitcastPair
public import proofs.«01_k».proof.Proof.Main.Ops
public import proofs.«01_k».proof.Proof.Main.Codes
public import proofs.«01_k».proof.Proof.Main.Blocks
public import proofs.«01_k».proof.Proof.Main.Settle
public import proofs.«01_k».proof.Proof.Main.Tile
public import proofs.«01_k».proof.Proof.Main.Spec
public import proofs.«01_k».proof.Proof.Main.Results
public import proofs.«01_k».proof.Proof.Main.Frame
public import proofs.«01_k».proof.Proof.Main.Inputs
public import Idealize.ShloMosaic.Lib.Claim
public import Idealize.ShloMosaic.Lib.StableHlo.ReadAt
public import Idealize.ShloMosaic.Lib.StableHlo.RunRead
public import Idealize.ShloMosaic.Lib.Pipeline.ValueKit
public import Idealize.ShloMosaic.Lib.Pipeline.CanonAppend

@[expose] public section

noncomputable section

namespace Cert.KernelIdeal.Main

open Idealize.ShloMosaic
open Cert.KernelIdeal.Gen
open Cert.Quant

open Idealize.ShloMosaic.TcCoe

variable (m : (ℓ : Loc nD τ sig) → Buf (Elt Ideal) ℓ)

/-! ## The codes and scales of a tile -/

/-- A group's scale is never zero. -/
theorem scaleE_ne (a g : EReal) : scaleE a g ≠ 0 := by
  unfold scaleE
  rw [c_zero, c_one, EReal.coe_zero, EReal.coe_one]
  unfold Ideal.cmp Scalar.select
  by_cases h : roundedE a g = 0
  · simp [h]
  · simp [h]

/-- Multiplying by the reciprocal is dividing, since the divisor is not zero. -/
theorem recip_eq (x s g : EReal) (hs : s ≠ 0) (hg : g ≠ 0) : x * recipE s g = Ideal.div x (s * g) := by
  have h : s * g ≠ 0 := mul_ne_zero hs hg
  unfold recipE Ideal.div
  rw [if_neg h, if_neg h, c_one, EReal.coe_one, one_mul]

/-- A tile's group is a group of the whole row. -/
theorem group_read (c : Dev nD) (t : Fin cfg0.N) (r : Fin 256) (G : Fin 32) (H : Fin 576) (hH : H.val = (tileCol t).val * 32 + G.val) :
    scaleE (groupOf (scaledAt m c t) r G) (argsK m c).yg = (argsK m c).scale (rowAt t.val r) H := by
  unfold groupOf Args.scale
  refine congrArg (fun f => scaleE (max16 f) _) (funext fun j => ?_)
  rw [read_scaled]
  refine congrArg ((argsK m c).sm _) (Fin.ext ?_)
  show 512 * (tileCol t).val + (16 * G.val + j.val) = 16 * H.val + j.val
  omega

theorem quot_read (c : Dev nD) (t : Fin cfg0.N) (hg : (argsK m c).yg ≠ 0) (r : Fin 256) (l : Fin 512) (n : Fin 9216) (hn : n.val = 512 * (tileCol t).val + l.val) :
    quotK (scaledAt m c t) (argsK m c).yg r l = (argsK m c).quot (rowAt t.val r) n := by
  unfold quotK
  rw [recip_eq _ _ _ (scaleE_ne _ _) hg, group_read m c t r _ ⟨n.val / 16, by omega⟩ (by show n.val / 16 = (tileCol t).val * 32 + l.val / 16; omega), read_scaled]
  have e : colAt (tileCol t) l = n := Fin.ext hn.symm
  rw [e]
  rfl

/-- A tile's codes are the arguments' codes there. -/
theorem codes_read (c : Dev nD) (t : Fin cfg0.N) (hg : (argsK m c).yg ≠ 0) (r : Fin 256) (C : Fin 256) (N : Fin 4608) (hN : N.val = 256 * (tileCol t).val + C.val) :
    codesAt m c t (ix2 r C) = (argsK m c).code (rowAt t.val r) N := by
  unfold codesAt
  rw [read_yg, codesOf_eq]
  show byteK (quotK (scaledAt m c t) (argsK m c).yg r ⟨C.val * 2, _⟩) (quotK (scaledAt m c t) (argsK m c).yg r ⟨C.val * 2 + 1, _⟩) = _
  rw [byte_eq, quot_read m c t hg r _ ⟨N.val * 2, by omega⟩ (by show N.val * 2 = 512 * (tileCol t).val + C.val * 2; omega),
    quot_read m c t hg r _ ⟨N.val * 2 + 1, by omega⟩ (by show N.val * 2 + 1 = 512 * (tileCol t).val + (C.val * 2 + 1); omega)]
  rfl

/-- A tile's scales are the arguments' scales there. -/
theorem scales_read (c : Dev nD) (t : Fin cfg0.N) (a : Fin 1) (r : Fin 256) (G : Fin 32) :
    scalesAt m c t (ix3 a r G) = (argsK m c).scale (rowAt t.val r) (groupAt (tileCol t) G) := by
  unfold scalesAt
  rw [read_yg, scalesOf_eq]
  exact group_read m c t r G _ rfl

/-! ## The sum over the column tiles -/

/-- What column tile `q` adds to a row of the next layer's low-rank rows. -/
def tileSum (A : Args) (R : Fin 1536) (j : Fin 48) (q : Fin 18) : EReal := ∑ l : Fin 512, A.sm R (colAt q l) * A.LD (colAt q l) j

/-- All column tiles together are the whole sum. -/
theorem tileSum_all (A : Args) (R : Fin 1536) (j : Fin 48) : ∑ q, tileSum A R j q = A.hn R j := by
  unfold tileSum Args.hn
  rw [← Fintype.sum_prod_type']
  refine Fintype.sum_equiv (finProdFinEquiv (m := 18) (n := 512)) _ _ fun x => ?_
  have e : colAt x.1 x.2 = finProdFinEquiv x := Fin.ext (by show 512 * x.1.val + x.2.val = x.2.val + 512 * x.1.val; omega)
  rw [e]

/-- The column tiles before number `k`. -/
def upTo (A : Args) (R : Fin 1536) (j : Fin 48) (k : ℕ) : EReal := ∑ q ∈ Finset.range k, if h : q < 18 then tileSum A R j ⟨q, h⟩ else 0

theorem upTo_all (A : Args) (R : Fin 1536) (j : Fin 48) : upTo A R j 18 = A.hn R j := by
  rw [← tileSum_all, upTo, Finset.sum_range]
  exact Finset.sum_congr rfl fun q _ => dif_pos q.isLt

/-- The running sum of a row tile is the sum over the column tiles up to the point's. -/
theorem hidden_read (c : Dev nD) (n : ℕ) (hn : n < cfg0.N) (r : Fin 256) (j : Fin 48) :
    hiddenAt m c n hn (ix2 r j) = upTo (argsK m c) (rowAt n r) j (n / 6 + 1) := by
  induction n using Nat.strong_induction_on with
  | _ n ih =>
    have hN : n < 108 := lt_of_lt_of_eq hn (show cfg0.N = 108 from N_0)
    have hs : (∑ l : Fin 512, act32 m c ⟨n, hn⟩ (ix2 r l) * iblk m c 7 ⟨n, hn⟩ (ix2 0 l) * iblk m c 8 ⟨n, hn⟩ (ix2 l j)) = tileSum (argsK m c) (rowAt n r) j ⟨n / 6, by omega⟩ := by
      refine Finset.sum_congr rfl fun l _ => ?_
      rw [read_act, read_sn, read_ld]
      rfl
    rw [hiddenAt, upTo, Finset.sum_range_succ, dif_pos (show n / 6 < 18 by omega)]
    by_cases h6 : n < 6
    · rw [dif_pos h6, rows_first, hs]
      have e : n / 6 = 0 := by omega
      rw [show Finset.range (n / 6) = ∅ from by rw [e]; rfl, Finset.sum_empty, zero_add]
    · rw [dif_neg h6, rows_next, hs, ih (n - 6) (by omega) (by omega)]
      have e1 : (n - 6) / 6 + 1 = n / 6 := by omega
      have e2 : rowAt (n - 6) r = rowAt n r := Fin.ext (by show 256 * ((n - 6) % 6) + r.val = 256 * (n % 6) + r.val; omega)
      rw [e1, e2]
      rfl

end Cert.KernelIdeal.Main

end
-- ==== Proof.Main.Final.lean ====
/- The main call's results as whole arrays, and its run: they are those of its arguments. -/
module

public import Idealize.ShloMosaic.Lib.Pointwise
public import Idealize.ShloMosaic.Lib.BitcastFour
public import Idealize.ShloMosaic.Lib.BitcastPair
public import proofs.«01_k».proof.Proof.Main.Ops
public import proofs.«01_k».proof.Proof.Main.Codes
public import proofs.«01_k».proof.Proof.Main.Blocks
public import proofs.«01_k».proof.Proof.Main.Settle
public import proofs.«01_k».proof.Proof.Main.Tile
public import proofs.«01_k».proof.Proof.Main.Spec
public import proofs.«01_k».proof.Proof.Main.Results
public import proofs.«01_k».proof.Proof.Main.Frame
public import proofs.«01_k».proof.Proof.Main.Values
public import Idealize.ShloMosaic.Lib.Pipeline.ArrRel
public import proofs.«01_k».proof.Proof.Main.Inputs
public import Idealize.ShloMosaic.Lib.Claim
public import Idealize.ShloMosaic.Lib.StableHlo.ReadAt
public import Idealize.ShloMosaic.Lib.StableHlo.RunRead
public import Idealize.ShloMosaic.Lib.Pipeline.ValueKit
public import Idealize.ShloMosaic.Lib.Pipeline.CanonAppend

@[expose] public section

noncomputable section

namespace Cert.KernelIdeal.Main

open Idealize.ShloMosaic
open Cert.KernelIdeal.Gen
open Cert.Quant

open Idealize.ShloMosaic.TcCoe

variable (m : (ℓ : Loc nD τ sig) → Buf (Elt Ideal) ℓ) (ρ : Dev nD → PrngReg)

/-- The activations the call leaves are the arguments' activations. -/
theorem final_act (c : Dev nD) : (dats m 0 c).arrAt 9 cfg0.N = resAct (argsK m c) := by
  refine (dats m 0 c).arrAt_eq_of_covers 9 _ (by decide +kernel) fun t hf y => ?_
  blk_simp
  rw [after0_9]
  have e : (((View.whole main_v6_0).slice (win0_9.rect t)).emb y : S1536x9216.Idx) = (fun z : S256x512.Idx => (ix2 (rowAt t.val (z 0)) (colAt (tileCol t) (z 1)) : S1536x9216.Idx)) y := by
    unfold rowAt colAt tileCol
    blk_ext [(idx t).2.2.2.2.2.2.2.2.2.1]
  rw [e]
  refine (congrArg _ (eq_ix2 (y : S256x512.Idx))).trans ?_
  exact read_act m c t _ _

/-- The codes the call leaves are the arguments' codes. -/
theorem final_codes (c : Dev nD) (hg : (argsK m c).yg ≠ 0) : (dats m 0 c).arrAt 11 cfg0.N = resCodes (argsK m c) := by
  refine (dats m 0 c).arrAt_eq_of_covers 11 _ (by decide +kernel) fun t hf y => ?_
  blk_simp
  rw [after0_11]
  have e : (((View.whole main_v6_2).slice (win0_11.rect t)).emb y : S1536x4608.Idx) = (fun z : S256x256.Idx => (ix2 (rowAt t.val (z 0)) ⟨256 * (tileCol t).val + (z 1).val, by have h : (z 1).val < 256 := (z 1).isLt; omega⟩ : S1536x4608.Idx)) y := by
    unfold rowAt tileCol
    blk_ext [(idx t).2.2.2.2.2.2.2.2.2.2.2.1]
  rw [e]
  refine (congrArg _ (eq_ix2 (y : S256x256.Idx))).trans ?_
  exact codes_read m c t hg _ _ _ rfl

/-- The scales the call leaves are the arguments' scales. -/
theorem final_scales (c : Dev nD) : (dats m 0 c).arrAt 12 cfg0.N = resScales (argsK m c) := by
  refine (dats m 0 c).arrAt_eq_of_covers 12 _ (by decide +kernel) fun t hf y => ?_
  blk_simp
  rw [after0_12]
  have e : (((View.whole main_v6_3).slice (win0_12.rect t)).emb y : S18x1536x32.Idx) = (fun z : S1x256x32.Idx => (ix3 (tileCol t) (rowAt t.val (z 1)) (z 2) : S18x1536x32.Idx)) y := by
    unfold rowAt tileCol
    blk_ext [(idx t).2.2.2.2.2.2.2.2.2.2.2.2]
  rw [e]
  refine (congrArg _ (eq_ix3 (y : S1x256x32.Idx))).trans ?_
  exact scales_read m c t _ _ _

/-- An array of which every point's contents are named ends as the named contents say. -/
theorem mem_exact {r : PUnit × MemSt nD τ sig (Elt Ideal)} (h : Pipeline.RDat.FramePost (cfgs 0) (rdat m) (V m) r) (c : Dev nD) (w : Fin cfg0.W) (hf : fgt w = false) :
    r.2.mem ((cfg0.spec w).arr.view.loc (c.tc : Thread nD τ)) = (dats m 0 c).arrAt w cfg0.N :=
  (((dats m 0 c).toR.override_arrAt (by simp only [hf]) _ _).trans ((dats m 0 c).toR_arrAt_iff w _ _)).mp ((h c).1 w)

/-- The marked window's array, written back once, ends as its last point leaves it. -/
theorem mem_known {r : PUnit × MemSt nD τ sig (Elt Ideal)} (h : Pipeline.RDat.FramePost (cfgs 0) (rdat m) (V m) r) (c : Dev nD) (w : Fin cfg0.W) (hf : fgt w = true)
    (t : Fin cfg0.N) (ht : (cfg0.win w).WholeAt t) :
    ∃ X, Rl m c w t X ∧ ∀ j : (cfg0.win w).shape.Idx, r.2.mem ((cfg0.spec w).arr.view.loc (c.tc : Thread nD τ)) ((cfg0.win w).arr.view.emb j)
      = _root_.cast (congrArg (Elt Ideal) (cfg0.win w).arr.view.elt_eq.symm) (X fun a => ⟨j a, ht.lt_size j a⟩) := by
  obtain ⟨X, hX, hj⟩ := Pipeline.RDat.ArrAt.emb_eq_of_wholeAt ((h c).1 w) ht
  exact ⟨X, (dats m 0 c).toRRel_leaves (fgt := fgt) (Rl := Rl m c) (w := w) hf hX, hj⟩

theorem whole10 : (cfg0.win 10).WholeAt ⟨107, by decide⟩ := by decide +kernel

/-- The next hidden rows the call leaves are the arguments' low-rank rows. -/
theorem final_hidden {r : PUnit × MemSt nD τ sig (Elt Ideal)} (h : Pipeline.RDat.FramePost (cfgs 0) (rdat m) (V m) r) (c : Dev nD) :
    r.2.mem ((c.tc : Thread nD τ).loc main_v6_1) = resHidden (argsK m c) := by
  obtain ⟨X, hX, hj⟩ := mem_known m h c 10 rfl ⟨107, by decide⟩ whole10
  refine funext fun (z : S1536x48.Idx) => (hj z).trans ?_
  have hz : (z 0).val < 1536 := (z 0).isLt
  have hN : cfg0.N = 108 := N_0
  have e : z = rowsOf (tileOf (102 + (z 0).val / 256)) (ix2 ⟨(z 0).val % 256, by omega⟩ (z 1)) := by
    refine (eq_ix2 z).trans (congrArg (fun a => ix2 a (z 1)) (Fin.ext ?_))
    show (z 0).val = 256 * ((102 + (z 0).val / 256) % 6) + (z 0).val % 256
    omega
  have k := (hX : Known m c ⟨107, by decide⟩ X) (102 + (z 0).val / 256) (by omega) (by show 102 + (z 0).val / 256 ≤ 107; omega) (by show 107 < 102 + (z 0).val / 256 + 6; omega)
    (ix2 ⟨(z 0).val % 256, by omega⟩ (z 1))
  rw [← e] at k
  have k := k.trans (hidden_read m c _ _ _ _)
  show X z = _
  rw [k]
  have e1 : (102 + (z 0).val / 256) / 6 + 1 = 18 := by omega
  have e2 : rowAt (102 + (z 0).val / 256) ⟨(z 0).val % 256, by omega⟩ = z 0 := Fin.ext (by show 256 * ((102 + (z 0).val / 256) % 6) + (z 0).val % 256 = (z 0).val; omega)
  rw [e1, e2]
  exact upTo_all (argsK m c) (z 0) (z 1)

/-- The call runs, its results are those of its arguments, and its arguments end unchanged. -/
theorem run_results (hg : ∀ c, (argsK m c).yg ≠ 0) : θ_run defs (onTc (τ := τ) (main (F := Ideal))) ⟨m, fun _ => 0, ρ⟩ (fun r => ∀ c : Dev nD,
      r.2.mem ((c.tc : Thread nD τ).loc main_v6_0) = resAct (argsK m c)
      ∧ r.2.mem ((c.tc : Thread nD τ).loc main_v6_1) = resHidden (argsK m c)
      ∧ r.2.mem ((c.tc : Thread nD τ).loc main_v6_2) = resCodes (argsK m c)
      ∧ r.2.mem ((c.tc : Thread nD τ).loc main_v6_3) = resScales (argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  θ_run_mono (θ_run_and (args_of m ρ (rdat m) (A_eq m) (θ_run_mono (run_main m ρ) fun _ h => h.1)) (run_main m ρ)) fun r h c =>
    ⟨(mem_exact m h.2.1 c 9 rfl).trans (final_act m c), final_hidden m h.2.1 c, (mem_exact m h.2.1 c 11 rfl).trans (final_codes m c (hg c)),
      (mem_exact m h.2.1 c 12 rfl).trans (final_scales m c), h.1 c⟩

end Cert.KernelIdeal.Main

end
-- ==== Proof.Ref.Run.lean ====
/- What the plain reference leaves in each of its results, in its own terms. -/
module

public import Idealize.ShloMosaic.Lib.Pointwise
public import proofs.«01_k».proof.Proof.Gen.ReferenceIdeal.Frame
public import proofs.«01_k».proof.Proof.Main.Spec

@[expose] public section

set_option maxRecDepth 16384

noncomputable section

namespace Cert.ReferenceIdeal.Plain

open Cert.ReferenceIdeal Cert.ReferenceIdeal.Gen
open Idealize.ShloMosaic Idealize.ShloMosaic.TcCoe

variable {F : FTy → Type} [FloatOps F]

/-- A whole two-axis buffer, as the reference loads it. -/
def loadAll {r l : ℕ} {e : EltTy} (a : Memref sig .tc .vmem ⟨2, ![r, l]⟩ e) (ha : a.IsWhole) (x : Vec F ⟨2, ![r, l]⟩ e) (h : ∀ d : Fin 2, ![0, 0] d + ![r, l] d ≤ ![r, l] d) : Vec F ⟨2, ![r, l]⟩ e :=
  View.readAt (Elt F) a.view (Rect.unit (s := ⟨2, ![r, l]⟩) ![0, 0] ![r, l] h).toLoadRect (ha.unread x)

theorem loadAll_eq {r l : ℕ} {e : EltTy} (a : Memref sig .tc .vmem ⟨2, ![r, l]⟩ e) (ha : a.IsWhole) (x : Vec F ⟨2, ![r, l]⟩ e) (h) : loadAll a ha x h = x := by
  funext i
  refine (ha.readAt_unread x (Rect.unit (s := ⟨2, ![r, l]⟩) ![0, 0] ![r, l] h).toLoadRect i).trans (congrArg x (funext fun d => Fin.ext ?_))
  show ![0, 0] d + 1 * (i d).val = (i d).val
  fin_cases d <;> simp

/-- A global scale, as the reference loads it. -/
def loadOne (a : Memref sig .tc .smem S1 .f32) (ha : a.IsWhole) (x : Vec F S1 .f32) (h : ∀ d : Fin 1, ![0] d + S1.size d ≤ S1.size d) : Elt F .f32 :=
  View.readAt (Elt F) a.view (Rect.unit (s := S1) ![0] S1.size h).toLoadRect (ha.unread x) (Shape.Idx.first (s := S1) (by decide))

theorem loadOne_eq (a : Memref sig .tc .smem S1 .f32) (ha : a.IsWhole) (x : Vec F S1 .f32) (h) : loadOne a ha x h = x (ix1 0) := by
  refine (ha.readAt_unread x (Rect.unit (s := S1) ![0] S1.size h).toLoadRect _).trans (congrArg x (funext fun d => Fin.ext ?_))
  obtain rfl : d = 0 := Subsingleton.elim d 0
  show 0 + 1 * 0 = 0
  omega

/-- The reference's activations. -/
def preR (x0 : Vec F S1536x3072 .bf16) (x1 : Vec F S1536x48 .bf16) (g0 : F .f32) (x3 : Vec F S1536x9216 .i8) (x4 : Vec F S192x9216 .fp8e4m3) (g1 : F .f32) (x6 : Vec F S48x9216 .bf16) (x7 : Vec F S1x9216 .f32) : FVec F S1536x9216 .f32 :=
  k0_pay12 (k0_pay2 x4) (k0_pay7 (k0_pay2 x4) (k0_pay5 (F := F) x3) (k0_pay6 x3) (Scalar.ofBits .f32 0x00000000#32)) (k0_pay9 (k0_pay3 (F := F) x3)) (k0_pay10 (k0_pay3 (F := F) x3)) k0_pay11 x0 x1 x6 g0 g1 x7

variable (c : Dev nD) (arg0 : Memref sig .tc .vmem S1536x3072 .bf16) (harg0 : arg0.IsWhole) (arg1 : Memref sig .tc .vmem S1536x48 .bf16) (harg1 : arg1.IsWhole) (arg2 : Memref sig .tc .smem S1 .f32) (harg2 : arg2.IsWhole) (arg3 : Memref sig .tc .vmem S1536x9216 .i8) (harg3 : arg3.IsWhole) (arg4 : Memref sig .tc .vmem S192x9216 .fp8e4m3) (harg4 : arg4.IsWhole) (arg5 : Memref sig .tc .smem S1 .f32) (harg5 : arg5.IsWhole) (arg6 : Memref sig .tc .vmem S48x9216 .bf16) (harg6 : arg6.IsWhole) (arg7 : Memref sig .tc .vmem S1x9216 .f32) (harg7 : arg7.IsWhole) (arg8 : Memref sig .tc .vmem S1x9216 .f32) (harg8 : arg8.IsWhole) (arg9 : Memref sig .tc .smem S1 .f32) (harg9 : arg9.IsWhole) (arg10 : Memref sig .tc .vmem S9216x48 .bf16) (harg10 : arg10.IsWhole) (arg11 : Memref sig .tc .vmem S1536x9216 .bf16) (harg11 : arg11.IsWhole) (arg12 : Memref sig .tc .vmem S1536x48 .f32) (harg12 : arg12.IsWhole) (arg13 : Memref sig .tc .vmem S1536x4608 .i8) (harg13 : arg13.IsWhole) (arg14 : Memref sig .tc .vmem S18x1536x32 .fp8e4m3) (harg14 : arg14.IsWhole)
variable (x0 : Vec F S1536x3072 .bf16) (x1 : Vec F S1536x48 .bf16) (x2 : Vec F S1 .f32) (x3 : Vec F S1536x9216 .i8) (x4 : Vec F S192x9216 .fp8e4m3) (x5 : Vec F S1 .f32) (x6 : Vec F S48x9216 .bf16) (x7 : Vec F S1x9216 .f32) (x8 : Vec F S1x9216 .f32) (x9 : Vec F S1 .f32) (x10 : Vec F S9216x48 .bf16)

/-- What the reference leaves in result 0. -/
theorem act_out : out0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = (k0_pay15 (preR x0 x1 (x2 (ix1 0)) x3 x4 (x5 (ix1 0)) x6 x7) : Vec F S1536x9216 .bf16) := by
  have e : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).1 = [⟨Rect.unit ![0, 0] S1536x9216.size inb_S1536x9216_S1536x9216_0_0, k0_pay15 (preR (loadAll arg0 harg0 x0 inb_S1536x3072_S1536x3072_0_0) (loadAll arg1 harg1 x1 inb_S1536x48_S1536x48_0_0) (loadOne arg2 harg2 x2 inb_S1_S1_0) (loadAll arg3 harg3 x3 inb_S1536x9216_S1536x9216_0_0) (loadAll arg4 harg4 x4 inb_S192x9216_S192x9216_0_0) (loadOne arg5 harg5 x5 inb_S1_S1_0) (loadAll arg6 harg6 x6 inb_S48x9216_S48x9216_0_0) (loadAll arg7 harg7 x7 inb_S1x9216_S1x9216_0_0))⟩] := rfl
  unfold out0_A_11
  refine (View.read_writes_eq_canon _ _ _ (cover0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)).trans ?_
  rw [e]
  simp only [loadAll_eq, loadOne_eq]
  exact View.canon_cons_unit_zero (S := S1536x9216) (by funext d; fin_cases d <;> rfl) _ _ _

/-- What the reference leaves in result 1. -/
theorem hidden_out : out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = (k0_pay1 (k0_pay28 (k0_pay14 (preR x0 x1 (x2 (ix1 0)) x3 x4 (x5 (ix1 0)) x6 x7) (k0_pay13 x8))) x10 : Vec F S1536x48 .f32) := by
  have e : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).2.1 = [⟨Rect.unit ![0, 0] S1536x48.size inb_S1536x48_S1536x48_0_0, k0_pay1 (k0_pay28 (k0_pay14 (preR (loadAll arg0 harg0 x0 inb_S1536x3072_S1536x3072_0_0) (loadAll arg1 harg1 x1 inb_S1536x48_S1536x48_0_0) (loadOne arg2 harg2 x2 inb_S1_S1_0) (loadAll arg3 harg3 x3 inb_S1536x9216_S1536x9216_0_0) (loadAll arg4 harg4 x4 inb_S192x9216_S192x9216_0_0) (loadOne arg5 harg5 x5 inb_S1_S1_0) (loadAll arg6 harg6 x6 inb_S48x9216_S48x9216_0_0) (loadAll arg7 harg7 x7 inb_S1x9216_S1x9216_0_0)) (k0_pay13 (loadAll arg8 harg8 x8 inb_S1x9216_S1x9216_0_0)))) (loadAll arg10 harg10 x10 inb_S9216x48_S9216x48_0_0)⟩] := rfl
  unfold out0_A_12
  refine (View.read_writes_eq_canon _ _ _ (cover0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)).trans ?_
  rw [e]
  simp only [loadAll_eq, loadOne_eq]
  exact View.canon_cons_unit_zero (S := S1536x48) (by funext d; fin_cases d <;> rfl) _ _ _

/-- What the reference leaves in result 2. -/
theorem codes_out : out0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = (k0_pay26 (k0_pay19 (preR x0 x1 (x2 (ix1 0)) x3 x4 (x5 (ix1 0)) x6 x7) (k0_pay13 x8) (x9 (ix1 0))) (k0_pay21 (preR x0 x1 (x2 (ix1 0)) x3 x4 (x5 (ix1 0)) x6 x7) (k0_pay13 x8) (x9 (ix1 0))) (k0_pay22 (preR x0 x1 (x2 (ix1 0)) x3 x4 (x5 (ix1 0)) x6 x7) (k0_pay13 x8) (x9 (ix1 0))) (k0_pay23 (preR x0 x1 (x2 (ix1 0)) x3 x4 (x5 (ix1 0)) x6 x7) (k0_pay13 x8) (x9 (ix1 0))) (k0_pay24 (preR x0 x1 (x2 (ix1 0)) x3 x4 (x5 (ix1 0)) x6 x7) (k0_pay13 x8) (x9 (ix1 0))) (k0_pay25 (preR x0 x1 (x2 (ix1 0)) x3 x4 (x5 (ix1 0)) x6 x7) (k0_pay13 x8) (x9 (ix1 0))) : Vec F S1536x4608 .i8) := by
  have e : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).2.2.1 = [⟨Rect.unit ![0, 0] S1536x4608.size inb_S1536x4608_S1536x4608_0_0, k0_pay26 (k0_pay19 (preR (loadAll arg0 harg0 x0 inb_S1536x3072_S1536x3072_0_0) (loadAll arg1 harg1 x1 inb_S1536x48_S1536x48_0_0) (loadOne arg2 harg2 x2 inb_S1_S1_0) (loadAll arg3 harg3 x3 inb_S1536x9216_S1536x9216_0_0) (loadAll arg4 harg4 x4 inb_S192x9216_S192x9216_0_0) (loadOne arg5 harg5 x5 inb_S1_S1_0) (loadAll arg6 harg6 x6 inb_S48x9216_S48x9216_0_0) (loadAll arg7 harg7 x7 inb_S1x9216_S1x9216_0_0)) (k0_pay13 (loadAll arg8 harg8 x8 inb_S1x9216_S1x9216_0_0)) (loadOne arg9 harg9 x9 inb_S1_S1_0)) (k0_pay21 (preR (loadAll arg0 harg0 x0 inb_S1536x3072_S1536x3072_0_0) (loadAll arg1 harg1 x1 inb_S1536x48_S1536x48_0_0) (loadOne arg2 harg2 x2 inb_S1_S1_0) (loadAll arg3 harg3 x3 inb_S1536x9216_S1536x9216_0_0) (loadAll arg4 harg4 x4 inb_S192x9216_S192x9216_0_0) (loadOne arg5 harg5 x5 inb_S1_S1_0) (loadAll arg6 harg6 x6 inb_S48x9216_S48x9216_0_0) (loadAll arg7 harg7 x7 inb_S1x9216_S1x9216_0_0)) (k0_pay13 (loadAll arg8 harg8 x8 inb_S1x9216_S1x9216_0_0)) (loadOne arg9 harg9 x9 inb_S1_S1_0)) (k0_pay22 (preR (loadAll arg0 harg0 x0 inb_S1536x3072_S1536x3072_0_0) (loadAll arg1 harg1 x1 inb_S1536x48_S1536x48_0_0) (loadOne arg2 harg2 x2 inb_S1_S1_0) (loadAll arg3 harg3 x3 inb_S1536x9216_S1536x9216_0_0) (loadAll arg4 harg4 x4 inb_S192x9216_S192x9216_0_0) (loadOne arg5 harg5 x5 inb_S1_S1_0) (loadAll arg6 harg6 x6 inb_S48x9216_S48x9216_0_0) (loadAll arg7 harg7 x7 inb_S1x9216_S1x9216_0_0)) (k0_pay13 (loadAll arg8 harg8 x8 inb_S1x9216_S1x9216_0_0)) (loadOne arg9 harg9 x9 inb_S1_S1_0)) (k0_pay23 (preR (loadAll arg0 harg0 x0 inb_S1536x3072_S1536x3072_0_0) (loadAll arg1 harg1 x1 inb_S1536x48_S1536x48_0_0) (loadOne arg2 harg2 x2 inb_S1_S1_0) (loadAll arg3 harg3 x3 inb_S1536x9216_S1536x9216_0_0) (loadAll arg4 harg4 x4 inb_S192x9216_S192x9216_0_0) (loadOne arg5 harg5 x5 inb_S1_S1_0) (loadAll arg6 harg6 x6 inb_S48x9216_S48x9216_0_0) (loadAll arg7 harg7 x7 inb_S1x9216_S1x9216_0_0)) (k0_pay13 (loadAll arg8 harg8 x8 inb_S1x9216_S1x9216_0_0)) (loadOne arg9 harg9 x9 inb_S1_S1_0)) (k0_pay24 (preR (loadAll arg0 harg0 x0 inb_S1536x3072_S1536x3072_0_0) (loadAll arg1 harg1 x1 inb_S1536x48_S1536x48_0_0) (loadOne arg2 harg2 x2 inb_S1_S1_0) (loadAll arg3 harg3 x3 inb_S1536x9216_S1536x9216_0_0) (loadAll arg4 harg4 x4 inb_S192x9216_S192x9216_0_0) (loadOne arg5 harg5 x5 inb_S1_S1_0) (loadAll arg6 harg6 x6 inb_S48x9216_S48x9216_0_0) (loadAll arg7 harg7 x7 inb_S1x9216_S1x9216_0_0)) (k0_pay13 (loadAll arg8 harg8 x8 inb_S1x9216_S1x9216_0_0)) (loadOne arg9 harg9 x9 inb_S1_S1_0)) (k0_pay25 (preR (loadAll arg0 harg0 x0 inb_S1536x3072_S1536x3072_0_0) (loadAll arg1 harg1 x1 inb_S1536x48_S1536x48_0_0) (loadOne arg2 harg2 x2 inb_S1_S1_0) (loadAll arg3 harg3 x3 inb_S1536x9216_S1536x9216_0_0) (loadAll arg4 harg4 x4 inb_S192x9216_S192x9216_0_0) (loadOne arg5 harg5 x5 inb_S1_S1_0) (loadAll arg6 harg6 x6 inb_S48x9216_S48x9216_0_0) (loadAll arg7 harg7 x7 inb_S1x9216_S1x9216_0_0)) (k0_pay13 (loadAll arg8 harg8 x8 inb_S1x9216_S1x9216_0_0)) (loadOne arg9 harg9 x9 inb_S1_S1_0))⟩] := rfl
  unfold out0_A_13
  refine (View.read_writes_eq_canon _ _ _ (cover0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)).trans ?_
  rw [e]
  simp only [loadAll_eq, loadOne_eq]
  exact View.canon_cons_unit_zero (S := S1536x4608) (by funext d; fin_cases d <;> rfl) _ _ _

/-- What the reference leaves in result 3. -/
theorem scales_out : out0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = (k0_pay27 (k0_pay18 (preR x0 x1 (x2 (ix1 0)) x3 x4 (x5 (ix1 0)) x6 x7) (k0_pay13 x8) (x9 (ix1 0))) : Vec F S18x1536x32 .fp8e4m3) := by
  have e : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).2.2.2.1 = [⟨Rect.unit ![0, 0, 0] S18x1536x32.size inb_S18x1536x32_S18x1536x32_0_0_0, k0_pay27 (k0_pay18 (preR (loadAll arg0 harg0 x0 inb_S1536x3072_S1536x3072_0_0) (loadAll arg1 harg1 x1 inb_S1536x48_S1536x48_0_0) (loadOne arg2 harg2 x2 inb_S1_S1_0) (loadAll arg3 harg3 x3 inb_S1536x9216_S1536x9216_0_0) (loadAll arg4 harg4 x4 inb_S192x9216_S192x9216_0_0) (loadOne arg5 harg5 x5 inb_S1_S1_0) (loadAll arg6 harg6 x6 inb_S48x9216_S48x9216_0_0) (loadAll arg7 harg7 x7 inb_S1x9216_S1x9216_0_0)) (k0_pay13 (loadAll arg8 harg8 x8 inb_S1x9216_S1x9216_0_0)) (loadOne arg9 harg9 x9 inb_S1_S1_0))⟩] := rfl
  unfold out0_A_14
  refine (View.read_writes_eq_canon _ _ _ (cover0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)).trans ?_
  rw [e]
  simp only [loadAll_eq, loadOne_eq]
  exact View.canon_cons_unit_zero (S := S18x1536x32) (by funext d; fin_cases d <;> rfl) _ _ _

end Cert.ReferenceIdeal.Plain

end
-- ==== Proof.Ref.Values.lean ====
/- What the plain reference computes, place by place. -/
module

public import Idealize.ShloMosaic.Lib.Pointwise
public import proofs.«01_k».proof.Proof.Gen.ReferenceIdeal.Frame
public import proofs.«01_k».proof.Proof.Main.Spec
public import proofs.«01_k».proof.Proof.Ref.Run

@[expose] public section

set_option maxRecDepth 16384

noncomputable section

namespace Cert.ReferenceIdeal.Plain

open Cert.ReferenceIdeal Cert.ReferenceIdeal.Gen
open Idealize.ShloMosaic Cert.Quant

open Cert.KernelIdeal.Main

theorem zero_word : Ideal.ofBits .f32 0x00000000#32 = 0 := c_zero.trans EReal.coe_zero
theorem one_word : Ideal.ofBits .f32 0x3F800000#32 = 1 := c_one.trans EReal.coe_one

/-- The weights of even rows. -/
theorem low_apply (x3 : Vec Ideal S1536x9216 .i8) (x4 : Vec Ideal S192x9216 .fp8e4m3) (a : Fin 1536) (n : Fin 9216) :
    k0_pay7 (F := Ideal) (k0_pay2 x4) (k0_pay5 (F := Ideal) x3) (k0_pay6 x3) (Scalar.ofBits .f32 0x00000000#32) (ix2 a n) = decR (nib (x3 (ix2 a n)) 0) * x4 (ix2 ⟨a.val / 8, by omega⟩ n) := by
  pointwise [k0_pay7, k0_pay2, k0_pay5, k0_pay6, k0_pay4, k0_pay3]
  unfold decR decMag
  rw [zero_word, one_word]
  rfl

/-- The weights of odd rows. -/
theorem high_apply (x3 : Vec Ideal S1536x9216 .i8) (a : Fin 1536) (n : Fin 9216) :
    Scalar.select (k0_pay9 (k0_pay3 (F := Ideal) x3) (ix2 a n)) (0 - k0_pay10 (F := Ideal) (k0_pay3 (F := Ideal) x3) (ix2 a n)) (k0_pay10 (F := Ideal) (k0_pay3 (F := Ideal) x3) (ix2 a n))
      = decR (nib (x3 (ix2 a n)) 1) := by
  pointwise [k0_pay9, k0_pay10, k0_pay8, k0_pay3]
  unfold decR decMag
  rw [zero_word, one_word]
  rfl

theorem scale3_apply (x4 : Vec Ideal S192x9216 .fp8e4m3) (a : Fin 192) (n : Fin 9216) : k0_pay2 (F := Ideal) x4 (ix3 a 0 n) = x4 (ix2 a n) := by
  pointwise [k0_pay2]

theorem gelu_apply (v3 : FVec Ideal S192x1x9216 .bf16) (v45 : FVec Ideal S1536x9216 .bf16) (v63 : IVec S1536x9216 1) (v78 : FVec Ideal S1536x9216 .f32) (x : Vec Ideal S1536x3072 .bf16) (h : Vec Ideal S1536x48 .bf16) (lu : Vec Ideal S48x9216 .bf16) (g0 g1 : EReal) (b : Vec Ideal S1x9216 .f32) (r : Fin 1536) (n : Fin 9216)
    (W : Fin 3072 → EReal)
    (hW : ∀ k : Fin 3072, (if _ : k.val % 2 < 1 then v45 (ix2 ⟨k.val / 2, by omega⟩ n) else
      Scalar.select (v63 (ix2 ⟨k.val / 2 / 8 * 8 + k.val / 2 % 8, by omega⟩ n)) (0 - v78 (ix2 ⟨k.val / 2 / 8 * 8 + k.val / 2 % 8, by omega⟩ n)) (v78 (ix2 ⟨k.val / 2 / 8 * 8 + k.val / 2 % 8, by omega⟩ n))
        * v3 (ix3 ⟨k.val / 2 / 8, by omega⟩ 0 n)) = W k) :
    k0_pay12 (F := Ideal) v3 v45 v63 v78 k0_pay11 x h lu g0 g1 b (ix2 r n)
      = geluE ((∑ k, x (ix2 r k) * W k) * (g0 * g1) + ∑ j, h (ix2 r j) * lu (ix2 j n) + b (ix2 0 n)) := by
  pointwise [k0_pay12, k0_pay11]
  simp only [hW]
  rfl

/-- The reference's activations, place by place. -/
theorem preR_apply (x : Vec Ideal S1536x3072 .bf16) (h : Vec Ideal S1536x48 .bf16) (g0 : EReal) (x3 : Vec Ideal S1536x9216 .i8) (x4 : Vec Ideal S192x9216 .fp8e4m3) (g1 : EReal) (lu : Vec Ideal S48x9216 .bf16) (b : Vec Ideal S1x9216 .f32) (r : Fin 1536) (n : Fin 9216) :
    preR (F := Ideal) x h g0 x3 x4 g1 lu b (ix2 r n)
      = geluE ((∑ k : Fin 3072, x (ix2 r k) * (decR (nib (x3 (ix2 ⟨k.val / 2, by omega⟩ n)) (k.val % 2)) * x4 (ix2 ⟨k.val / 16, by omega⟩ n))) * (g0 * g1)
        + ∑ j, h (ix2 r j) * lu (ix2 j n) + b (ix2 0 n)) := by
  refine gelu_apply _ _ _ _ x h lu g0 g1 b r n _ fun k => ?_
  have e8 : (⟨k.val / 2 / 8, by omega⟩ : Fin 192) = ⟨k.val / 16, by omega⟩ := Fin.ext (by show k.val / 2 / 8 = k.val / 16; omega)
  have e2 : (⟨k.val / 2 / 8 * 8 + k.val / 2 % 8, by omega⟩ : Fin 1536) = ⟨k.val / 2, by omega⟩ := Fin.ext (by show k.val / 2 / 8 * 8 + k.val / 2 % 8 = k.val / 2; omega)
  by_cases hk : k.val % 2 < 1
  · rw [dif_pos hk, low_apply, show k.val % 2 = 0 by omega]
    exact congrArg (fun a => decR (nib (x3 (ix2 _ n)) 0) * x4 (ix2 a n)) e8
  · rw [dif_neg hk, e2, high_apply, scale3_apply, e8, show k.val % 2 = 1 by omega]

theorem low_word : Ideal.ofBits .f32 0xFF800000#32 = ⊥ := by
  simp [Ideal.ofBits, Ideal.ieee]

theorem max_apply (y : FVec Ideal S1536x576x16 .f32) (r : Fin 1536) (G : Fin 576)  :
    multiReduction (F := Ideal) .maximumf [2] S1536x576 (absf y) 0xFF800000#32 reduces_S1536x576x16_S1536x576 (.inl rfl) rfl (ix2 r G) = max16 (fun k => y (ix3 r G k)) := by
  rw [← fold_max16, ← low_word]
  pointwise []
  rfl

theorem split_apply (y s : FVec Ideal S1536x9216 .f32) (r : Fin 1536) (G : Fin 576) (j : Fin 16) :
    k0_pay16 (F := Ideal) y s (ix3 r G j) = y (ix2 r ⟨16 * G.val + j.val, by omega⟩) * s (ix2 r ⟨16 * G.val + j.val, by omega⟩) := by
  have e : (⟨16 * G.val + j.val, by omega⟩ : Fin 9216) = ⟨G.val * 16 + j.val, by omega⟩ := Fin.ext (by show 16 * G.val + j.val = G.val * 16 + j.val; omega)
  rw [e]
  pointwise [k0_pay16, k0_pay14]

/-- The scales of groups whose largest magnitudes are `M`. -/
def scaleV (M : FVec Ideal S1536x576 .f32) (g : EReal) : FVec Ideal S1536x576 .f32 :=
  select
      (cmpf CmpFPredicate.oeq
        (extf FTy.f32
          (truncf FTy.fp8e4m3
            (minimumf (broadcast S1536x576 (FloatOps.ofBits FTy.f32 1138753536#32))
              (maximumf (broadcast S1536x576 (FloatOps.ofBits FTy.f32 0#32))
                (divf
                  (mulf
                   M
                    (broadcast S1536x576 (FloatOps.ofBits FTy.f32 1065355264#32)))
                  (broadcast S1536x576 (Scalar.mulf (FloatOps.ofBits FTy.f32 1086324736#32) g)))))
            bitsLt_fp8e4m3_f32)
          bitsLt_fp8e4m3_f32)
        (broadcast S1536x576 (FloatOps.ofBits FTy.f32 0#32)))
      (broadcast S1536x576 (FloatOps.ofBits FTy.f32 1065353216#32))
      (extf FTy.f32
        (truncf FTy.fp8e4m3
          (minimumf (broadcast S1536x576 (FloatOps.ofBits FTy.f32 1138753536#32))
            (maximumf (broadcast S1536x576 (FloatOps.ofBits FTy.f32 0#32))
              (divf
                (mulf
                  M
                  (broadcast S1536x576 (FloatOps.ofBits FTy.f32 1065355264#32)))
                (broadcast S1536x576 (Scalar.mulf (FloatOps.ofBits FTy.f32 1086324736#32) g)))))
          bitsLt_fp8e4m3_f32)
        bitsLt_fp8e4m3_f32)

theorem scaleV_apply (M : FVec Ideal S1536x576 .f32) (g : EReal) (r : Fin 1536) (G : Fin 576) : scaleV M g (ix2 r G) = scaleE (M (ix2 r G)) g := rfl

theorem pay17_eq (y s : FVec Ideal S1536x9216 .f32) (g : EReal) :
    k0_pay17 (F := Ideal) y s g = scaleV (multiReduction (F := Ideal) .maximumf [2] S1536x576 (absf (k0_pay16 y s)) 0xFF800000#32 reduces_S1536x576x16_S1536x576 (.inl rfl) rfl) g := rfl

/-- The reference's scales. -/
theorem scale_apply (y s : FVec Ideal S1536x9216 .f32) (g : EReal) (r : Fin 1536) (G : Fin 576) :
    k0_pay17 (F := Ideal) y s g (ix2 r G) = scaleE (max16 fun j => y (ix2 r ⟨16 * G.val + j.val, by omega⟩) * s (ix2 r ⟨16 * G.val + j.val, by omega⟩)) g := by
  have h := max_apply (k0_pay16 y s) r G
  simp only [split_apply] at h
  rw [pay17_eq, scaleV_apply, h]

/-- The reference's scales, laid out by column tile. -/
theorem scales_apply (s : FVec Ideal S1536x576 .fp8e4m3) (a : Fin 18) (r : Fin 1536) (G : Fin 32) :
    k0_pay27 (F := Ideal) s (ix3 a r G) = s (ix2 r ⟨a.val * 32 + G.val, by omega⟩) := by
  pointwise [k0_pay27]

/-- The reference's low-rank rows. -/
theorem hn_apply (y : FVec Ideal S1536x9216 .f32)  (l : Vec Ideal S9216x48 .bf16) (r : Fin 1536) (j : Fin 48) :
    k0_pay1 (F := Ideal) (k0_pay28 y) l (ix2 r j) = ∑ n, y (ix2 r n) * l (ix2 n j) := by
  pointwise [k0_pay1, k0_pay28]

/-- What the reference divides before it rounds. -/
theorem quot_apply (y s : FVec Ideal S1536x9216 .f32) (g : EReal) (r : Fin 1536) (G : Fin 576) (j : Fin 16) :
    k0_pay19 (F := Ideal) y s g (ix3 r G j) = Ideal.div (y (ix2 r ⟨G.val * 16 + j.val, by omega⟩) * s (ix2 r ⟨G.val * 16 + j.val, by omega⟩)) (k0_pay17 (F := Ideal) y s g (ix2 r G) * g) := by
  pointwise [k0_pay19, k0_pay16, k0_pay14]

/-- The reference's bytes of codes. -/
theorem code_apply (y s : FVec Ideal S1536x9216 .f32) (g : EReal) (r : Fin 1536) (C : Fin 4608) :
    k0_pay26 (F := Ideal) (k0_pay19 y s g) (k0_pay21 y s g) (k0_pay22 y s g) (k0_pay23 y s g) (k0_pay24 y s g) (k0_pay25 y s g) (ix2 r C)
      = byteR (k0_pay19 (F := Ideal) y s g (ix3 r ⟨C.val / 8, by omega⟩ ⟨C.val % 8 * 2, by omega⟩)) (k0_pay19 (F := Ideal) y s g (ix3 r ⟨C.val / 8, by omega⟩ ⟨C.val % 8 * 2 + 1, by omega⟩)) := by
  have h21 : ∀ i, k0_pay21 (F := Ideal) y s g i = Ideal.cmp .olt (magR (k0_pay19 (F := Ideal) y s g i)) (Ideal.ofBits .f32 0x40000000#32) := fun _ => rfl
  have h22 : ∀ i, k0_pay22 (F := Ideal) y s g i = Ideal.div (Ideal.liftRound Ideal.roundHalfEven (Ideal.ofBits .f32 0x40000000#32 * magR (k0_pay19 (F := Ideal) y s g i))) (Ideal.ofBits .f32 0x40000000#32) := fun _ => rfl
  have h23 : ∀ i, k0_pay23 (F := Ideal) y s g i = Ideal.cmp .olt (magR (k0_pay19 (F := Ideal) y s g i)) (Ideal.ofBits .f32 0x40800000#32) := fun _ => rfl
  have h24 : ∀ i, k0_pay24 (F := Ideal) y s g i = Ideal.liftRound Ideal.roundHalfEven (magR (k0_pay19 (F := Ideal) y s g i)) := fun _ => rfl
  have h25 : ∀ i, k0_pay25 (F := Ideal) y s g i = Ideal.div (magR (k0_pay19 (F := Ideal) y s g i)) (Ideal.ofBits .f32 0x40000000#32) := fun _ => rfl
  pointwise [k0_pay26]
  simp only [h21, h22, h23, h24, h25]
  generalize k0_pay19 (F := Ideal) y s g (ix3 r ⟨C.val / 8, _⟩ ⟨C.val % 8 * 2, _⟩) = t0
  generalize k0_pay19 (F := Ideal) y s g (ix3 r ⟨C.val / 8, _⟩ ⟨C.val % 8 * 2 + 1, _⟩) = t1
  have hg : ∀ t, Scalar.select (Ideal.cmp .olt (magR t) (Ideal.ofBits .f32 0x40000000#32))
    (Ideal.div (Ideal.liftRound Ideal.roundHalfEven (Ideal.ofBits .f32 0x40000000#32 * magR t)) (Ideal.ofBits .f32 0x40000000#32))
    (Scalar.select (Ideal.cmp .olt (magR t) (Ideal.ofBits .f32 0x40800000#32)) (Ideal.liftRound Ideal.roundHalfEven (magR t))
      (Ideal.ofBits .f32 0x40000000#32
        * Ideal.liftRound Ideal.roundHalfEven (Ideal.div (magR t) (Ideal.ofBits .f32 0x40000000#32)))) = gridR (magR t) := fun _ => rfl
  simp only [hg]
  unfold byteR codeR indexR
  simp only [cmp_olt, cmp_ogt, select_ofBool, decide_eq_true_eq, c_zero, EReal.coe_zero]
  rfl

end Cert.ReferenceIdeal.Plain

end
-- ==== Proof.Ref.Final.lean ====
/- The plain reference's results as whole arrays. -/
module

public import Idealize.ShloMosaic.Lib.Pointwise
public import Idealize.ShloMosaic.Lib.Claim
public import Idealize.ShloMosaic.Lib.Pipeline.ValueKit
public import proofs.«01_k».proof.Proof.Gen.ReferenceIdeal.Frame
public import proofs.«01_k».proof.Proof.Main.Spec
public import proofs.«01_k».proof.Proof.Ref.Run
public import proofs.«01_k».proof.Proof.Ref.Values
public import proofs.«01_k».proof.Proof.Main.Results
public import proofs.«01_k».proof.Proof.Gen.ReferenceIdeal.Value

@[expose] public section

set_option maxRecDepth 16384

noncomputable section

namespace Cert.ReferenceIdeal.Plain

open Cert.ReferenceIdeal Cert.ReferenceIdeal.Gen
open Idealize.ShloMosaic Idealize.ShloMosaic.TcCoe Cert.Quant

open Cert.KernelIdeal.Main

variable (m : (ℓ : Loc nD τ sig) → Buf (Elt Ideal) ℓ)

/-- The reference's arguments in memory. -/
def argsR (c : Dev nD) : Args :=
  argsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

theorem idx_0 : ∀ t : Fin cfg0.N, win0_0.index t = ![0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0] := (by decide +kernel : ∀ t : Fin grid0.N, _)
theorem idx_14 : ∀ t : Fin cfg0.N, win0_14.index t = ![0, 0, 0] := (by decide +kernel : ∀ t : Fin grid0.N, _)

theorem read_x (c : Dev nD) (t : Fin cfg0.N) (r : Fin 1536) (k : Fin 3072) : iblk m c 0 t (ix2 r k) = (argsR m c).X r k := by
  show _ = m ((c.tc : Thread nD τ).loc main_arg0) (ix2 r k)
  blk_ext [iblk, V_main_arg0, idx_0 t]

theorem read_h (c : Dev nD) (t : Fin cfg0.N) (r : Fin 1536) (j : Fin 48) : iblk m c 1 t (ix2 r j) = (argsR m c).H r j := by
  show _ = m ((c.tc : Thread nD τ).loc main_arg1) (ix2 r j)
  blk_ext [iblk, V_main_arg1, idx_1 t]

theorem read_xg (c : Dev nD) (t : Fin cfg0.N) : iblk m c 2 t (ix1 0) = (argsR m c).xg := by
  show _ = only (m ((c.tc : Thread nD τ).loc main_arg2))
  blk_simp [iblk]
  entry_read
  pointwise
  exact congrArg (m ((c.tc : Thread nD τ).loc main_arg2)) (funext fun a => a.elim0)

theorem read_wp (c : Dev nD) (t : Fin cfg0.N) (a : Fin 1536) (n : Fin 9216) : iblk m c 3 t (ix2 a n) = (argsR m c).WP a n := by
  show _ = m ((c.tc : Thread nD τ).loc main_arg3) (ix2 a n)
  blk_ext [iblk, V_main_arg3, idx_3 t]

theorem read_ws (c : Dev nD) (t : Fin cfg0.N) (a : Fin 192) (n : Fin 9216) : iblk m c 4 t (ix2 a n) = (argsR m c).WS a n := by
  show _ = m ((c.tc : Thread nD τ).loc main_arg4) (ix2 a n)
  blk_ext [iblk, V_main_arg4, idx_4 t]

theorem read_wg (c : Dev nD) (t : Fin cfg0.N) : iblk m c 5 t (ix1 0) = (argsR m c).wg := by
  show _ = only (m ((c.tc : Thread nD τ).loc main_arg5))
  blk_simp [iblk]
  entry_read
  pointwise
  exact congrArg (m ((c.tc : Thread nD τ).loc main_arg5)) (funext fun a => a.elim0)

theorem read_lu (c : Dev nD) (t : Fin cfg0.N) (j : Fin 48) (n : Fin 9216) : iblk m c 6 t (ix2 j n) = (argsR m c).LU j n := by
  show _ = m ((c.tc : Thread nD τ).loc main_arg6) (ix2 j n)
  blk_ext [iblk, V_main_arg6, idx_6 t]

theorem read_b (c : Dev nD) (t : Fin cfg0.N) (n : Fin 9216) : iblk m c 7 t (ix2 0 n) = (argsR m c).B n := by
  show _ = m ((c.tc : Thread nD τ).loc main_arg7) (ix1 n)
  blk_simp [iblk]
  entry_read
  pointwise
  blk_ext [idx_7 t]

theorem read_sn (c : Dev nD) (t : Fin cfg0.N) (n : Fin 9216) : iblk m c 8 t (ix2 0 n) = (argsR m c).SN n := by
  show _ = m ((c.tc : Thread nD τ).loc main_arg8) (ix1 n)
  blk_simp [iblk]
  entry_read
  pointwise
  blk_ext [idx_8 t]

theorem read_yg (c : Dev nD) (t : Fin cfg0.N) : iblk m c 9 t (ix1 0) = (argsR m c).yg := by
  show _ = only (m ((c.tc : Thread nD τ).loc main_arg9))
  blk_simp [iblk]
  entry_read
  pointwise
  exact congrArg (m ((c.tc : Thread nD τ).loc main_arg9)) (funext fun a => a.elim0)

theorem read_ld (c : Dev nD) (t : Fin cfg0.N) (n : Fin 9216) (j : Fin 48) : iblk m c 10 t (ix2 n j) = (argsR m c).LD n j := by
  show _ = m ((c.tc : Thread nD τ).loc main_arg10) (ix2 n j)
  blk_ext [iblk, V_main_arg10, idx_10 t]

/-- What the reference computes before it rounds, of the arguments in memory. -/
theorem pre_read (c : Dev nD) (t : Fin cfg0.N) (r : Fin 1536) (n : Fin 9216) :
    preR (F := Ideal) (iblk m c 0 t) (iblk m c 1 t) (iblk m c 2 t (ix1 0)) (iblk m c 3 t) (iblk m c 4 t) (iblk m c 5 t (ix1 0)) (iblk m c 6 t) (iblk m c 7 t) (ix2 r n) = geluE ((argsR m c).y r n) := by
  rw [preR_apply]
  simp only [read_x, read_h, read_xg, read_wp, read_ws, read_wg, read_lu, read_b]
  rfl

/-- The smoothing factors, spread over the rows. -/
theorem sn_read (c : Dev nD) (t : Fin cfg0.N) (r : Fin 1536) (n : Fin 9216) : k0_pay13 (F := Ideal) (iblk m c 8 t) (ix2 r n) = (argsR m c).SN n := by
  rw [← read_sn m c t n]
  generalize iblk m c 8 t = x8
  pointwise [k0_pay13]

theorem scale_read (c : Dev nD) (t : Fin cfg0.N) (r : Fin 1536) (G : Fin 576) :
    k0_pay17 (F := Ideal) (preR (iblk m c 0 t) (iblk m c 1 t) (iblk m c 2 t (ix1 0)) (iblk m c 3 t) (iblk m c 4 t) (iblk m c 5 t (ix1 0)) (iblk m c 6 t) (iblk m c 7 t)) (k0_pay13 (iblk m c 8 t)) (iblk m c 9 t (ix1 0)) (ix2 r G) = (argsR m c).scale r G := by
  rw [scale_apply]
  simp only [pre_read, sn_read, read_yg]
  rfl

theorem quot_read (c : Dev nD) (t : Fin cfg0.N) (r : Fin 1536) (G : Fin 576) (j : Fin 16) (n : Fin 9216) (h : n.val = G.val * 16 + j.val) :
    k0_pay19 (F := Ideal) (preR (iblk m c 0 t) (iblk m c 1 t) (iblk m c 2 t (ix1 0)) (iblk m c 3 t) (iblk m c 4 t) (iblk m c 5 t (ix1 0)) (iblk m c 6 t) (iblk m c 7 t)) (k0_pay13 (iblk m c 8 t)) (iblk m c 9 t (ix1 0)) (ix3 r G j) = (argsR m c).quot r n := by
  rw [quot_apply, scale_read, pre_read, sn_read, read_yg]
  have e : (⟨G.val * 16 + j.val, by omega⟩ : Fin 9216) = n := Fin.ext h.symm
  have e' : (⟨n.val / 16, by omega⟩ : Fin 576) = G := Fin.ext (by show n.val / 16 = G.val; omega)
  rw [e]
  unfold Args.quot
  rw [e']
  rfl

theorem hidden_read (c : Dev nD) (t : Fin cfg0.N) (r : Fin 1536) (j : Fin 48) :
    k0_pay1 (F := Ideal) (k0_pay28 (k0_pay14 (preR (iblk m c 0 t) (iblk m c 1 t) (iblk m c 2 t (ix1 0)) (iblk m c 3 t) (iblk m c 4 t) (iblk m c 5 t (ix1 0)) (iblk m c 6 t) (iblk m c 7 t)) (k0_pay13 (iblk m c 8 t)))) (iblk m c 10 t) (ix2 r j) = (argsR m c).hn r j := by
  refine (hn_apply _ _ r j).trans (Finset.sum_congr rfl fun n _ => ?_)
  rw [read_ld]
  refine congrArg (· * _) ?_
  show preR (F := Ideal) (iblk m c 0 t) (iblk m c 1 t) (iblk m c 2 t (ix1 0)) (iblk m c 3 t) (iblk m c 4 t) (iblk m c 5 t (ix1 0)) (iblk m c 6 t) (iblk m c 7 t) (ix2 r n) * k0_pay13 (F := Ideal) (iblk m c 8 t) (ix2 r n) = _
  rw [pre_read, sn_read]
  rfl

theorem codes_read (c : Dev nD) (t : Fin cfg0.N) (r : Fin 1536) (C : Fin 4608) :
    k0_pay26 (F := Ideal) (k0_pay19 (preR (iblk m c 0 t) (iblk m c 1 t) (iblk m c 2 t (ix1 0)) (iblk m c 3 t) (iblk m c 4 t) (iblk m c 5 t (ix1 0)) (iblk m c 6 t) (iblk m c 7 t)) (k0_pay13 (iblk m c 8 t)) (iblk m c 9 t (ix1 0))) (k0_pay21 (preR (iblk m c 0 t) (iblk m c 1 t) (iblk m c 2 t (ix1 0)) (iblk m c 3 t) (iblk m c 4 t) (iblk m c 5 t (ix1 0)) (iblk m c 6 t) (iblk m c 7 t)) (k0_pay13 (iblk m c 8 t)) (iblk m c 9 t (ix1 0))) (k0_pay22 (preR (iblk m c 0 t) (iblk m c 1 t) (iblk m c 2 t (ix1 0)) (iblk m c 3 t) (iblk m c 4 t) (iblk m c 5 t (ix1 0)) (iblk m c 6 t) (iblk m c 7 t)) (k0_pay13 (iblk m c 8 t)) (iblk m c 9 t (ix1 0))) (k0_pay23 (preR (iblk m c 0 t) (iblk m c 1 t) (iblk m c 2 t (ix1 0)) (iblk m c 3 t) (iblk m c 4 t) (iblk m c 5 t (ix1 0)) (iblk m c 6 t) (iblk m c 7 t)) (k0_pay13 (iblk m c 8 t)) (iblk m c 9 t (ix1 0))) (k0_pay24 (preR (iblk m c 0 t) (iblk m c 1 t) (iblk m c 2 t (ix1 0)) (iblk m c 3 t) (iblk m c 4 t) (iblk m c 5 t (ix1 0)) (iblk m c 6 t) (iblk m c 7 t)) (k0_pay13 (iblk m c 8 t)) (iblk m c 9 t (ix1 0))) (k0_pay25 (preR (iblk m c 0 t) (iblk m c 1 t) (iblk m c 2 t (ix1 0)) (iblk m c 3 t) (iblk m c 4 t) (iblk m c 5 t (ix1 0)) (iblk m c 6 t) (iblk m c 7 t)) (k0_pay13 (iblk m c 8 t)) (iblk m c 9 t (ix1 0))) (ix2 r C) = (argsR m c).code r C := by
  rw [code_apply, quot_read m c t r _ _ ⟨C.val * 2, by omega⟩ (by show C.val * 2 = C.val / 8 * 16 + C.val % 8 * 2; omega),
    quot_read m c t r _ _ ⟨C.val * 2 + 1, by omega⟩ (by show C.val * 2 + 1 = C.val / 8 * 16 + (C.val % 8 * 2 + 1); omega)]
  rfl

theorem scales_read (c : Dev nD) (t : Fin cfg0.N) (a : Fin 18) (r : Fin 1536) (G : Fin 32) :
    k0_pay27 (F := Ideal) (k0_pay18 (preR (iblk m c 0 t) (iblk m c 1 t) (iblk m c 2 t (ix1 0)) (iblk m c 3 t) (iblk m c 4 t) (iblk m c 5 t (ix1 0)) (iblk m c 6 t) (iblk m c 7 t)) (k0_pay13 (iblk m c 8 t)) (iblk m c 9 t (ix1 0))) (ix3 a r G) = (argsR m c).scale r (groupAt a G) :=
  (scales_apply _ a r G).trans (scale_read m c t r _)

/-- The reference's activations are the arguments' activations. -/
theorem final_act (c : Dev nD) : (dats m 0 c).arrAt 11 cfg0.N = resAct (argsR m c) := by
  refine (dats m 0 c).arrAt_eq_of_covers 11 _ (by decide +kernel) fun t hf y => ?_
  blk_simp
  rw [after0_11]
  simp only [outsAt0, act_out]
  have e : (((View.whole main_v5_0).slice (win0_11.rect t)).emb y : S1536x9216.Idx) = y := by
    blk_ext [idx_11 t]
  rw [e]
  exact (congrArg _ (eq_ix2 (y : S1536x9216.Idx))).trans (pre_read m c t _ _)

/-- The reference's next hidden rows are the arguments' next hidden rows. -/
theorem final_hidden (c : Dev nD) : (dats m 0 c).arrAt 12 cfg0.N = resHidden (argsR m c) := by
  refine (dats m 0 c).arrAt_eq_of_covers 12 _ (by decide +kernel) fun t hf y => ?_
  blk_simp
  rw [after0_12]
  simp only [outsAt0, hidden_out]
  have e : (((View.whole main_v5_1).slice (win0_12.rect t)).emb y : S1536x48.Idx) = y := by
    blk_ext [idx_12 t]
  rw [e]
  exact (congrArg _ (eq_ix2 (y : S1536x48.Idx))).trans (hidden_read m c t _ _)

/-- The reference's codes are the arguments' codes. -/
theorem final_codes (c : Dev nD) : (dats m 0 c).arrAt 13 cfg0.N = resCodes (argsR m c) := by
  refine (dats m 0 c).arrAt_eq_of_covers 13 _ (by decide +kernel) fun t hf y => ?_
  blk_simp
  rw [after0_13]
  simp only [outsAt0, codes_out]
  have e : (((View.whole main_v5_2).slice (win0_13.rect t)).emb y : S1536x4608.Idx) = y := by
    blk_ext [idx_13 t]
  rw [e]
  exact (congrArg _ (eq_ix2 (y : S1536x4608.Idx))).trans (codes_read m c t _ _)

/-- The reference's scales are the arguments' scales. -/
theorem final_scales (c : Dev nD) : (dats m 0 c).arrAt 14 cfg0.N = resScales (argsR m c) := by
  refine (dats m 0 c).arrAt_eq_of_covers 14 _ (by decide +kernel) fun t hf y => ?_
  blk_simp
  rw [after0_14]
  simp only [outsAt0, scales_out]
  have e : (((View.whole main_v5_3).slice (win0_14.rect t)).emb y : S18x1536x32.Idx) = y := by
    blk_ext [idx_14 t]
  rw [e]
  exact (congrArg _ (eq_ix3 (y : S18x1536x32.Idx))).trans (scales_read m c t _ _ _)

end Cert.ReferenceIdeal.Plain

end
-- ==== Proof.Same.lean ====
/- The kernel's main call and the plain reference have the same results. -/
module

public import proofs.«01_k».proof.Defs
public import proofs.«01_k».proof.Proof.Gen.Kernel
public import proofs.«01_k».proof.Proof.Main.Final
public import proofs.«01_k».proof.Proof.Ref.Final

@[expose] public section

noncomputable section

namespace Cert.Proof

open Idealize.ShloMosaic Idealize.SL.Sem Cert.Quant Cert.KernelIdeal.Main

/-- What the precondition says: the result's global scale is not zero. -/
theorem scale_ne [Cert.Pre_nonzero_y_global.Facts] (m : (ℓ : Loc Cert.KernelIdeal.nD Cert.KernelIdeal.τ Cert.KernelIdeal.sig) → Buf (Elt Ideal) ℓ)
    (h : Cert.Pre_KernelIdeal_nonzero_y_global m) (c : Dev Cert.KernelIdeal.nD) : (Cert.KernelIdeal.Main.argsK m c).yg ≠ 0 := by
  intro h0
  have h1 : Ideal.cmp .une (Cert.KernelIdeal.Main.argsK m c).yg (Ideal.ofBits .f32 0x00000000#32) = 1#1 := congrFun (h c) fun a => a.elim0
  rw [h0, c_zero, EReal.coe_zero] at h1
  simp [Ideal.cmp] at h1

/-- Equal arguments are equal arguments, whichever program reads them. -/
theorem args_same (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Plain.argsR m' c = Cert.KernelIdeal.Main.argsK m c := by
  unfold Cert.ReferenceIdeal.Plain.argsR Cert.KernelIdeal.Main.argsK
  rw [h0, h1, h2, h3, h4, h5, h6, h7, h8, h9, h10]

/-- The kernel's main call and the plain reference, of equal arguments, have equal results. -/
theorem same [hPre : Cert.Pre_nonzero_y_global.Facts] :
    Cert.algebraic_KernelIdeal_ReferenceIdeal_pre_nonzero_y_global (hKernelIdeal := Cert.KernelIdeal.Gen.facts) (hReferenceIdeal := Cert.ReferenceIdeal.Gen.facts) := by
  intro m g m' g' hp ha
  have hA : ∀ c, Cert.ReferenceIdeal.Plain.argsR m' c = Cert.KernelIdeal.Main.argsK m c := fun c => by
    obtain ⟨h0, h1, h2, h3, h4, h5, h6, h7, h8, h9, h10⟩ := ha c
    exact args_same m m' c h0 h1 h2 h3 h4 h5 h6 h7 h8 h9 h10
  refine ⟨fun c => Cert.KernelIdeal.Main.resAct (Cert.KernelIdeal.Main.argsK m c), fun c => Cert.KernelIdeal.Main.resHidden (Cert.KernelIdeal.Main.argsK m c),
    fun c => Cert.KernelIdeal.Main.resCodes (Cert.KernelIdeal.Main.argsK m c), fun c => Cert.KernelIdeal.Main.resScales (Cert.KernelIdeal.Main.argsK m c),
    Cert.KernelIdeal.Main.run_results m g (scale_ne m hp), θ_run_mono (Cert.ReferenceIdeal.Value.run_blocks m' g') fun _ h c => ?_⟩
  obtain ⟨r0, r1, r2, r3, hr⟩ := h c
  exact ⟨r0.trans ((Cert.ReferenceIdeal.Plain.final_act m' c).trans (congrArg Cert.KernelIdeal.Main.resAct (hA c))),
    r1.trans ((Cert.ReferenceIdeal.Plain.final_hidden m' c).trans (congrArg Cert.KernelIdeal.Main.resHidden (hA c))),
    r2.trans ((Cert.ReferenceIdeal.Plain.final_codes m' c).trans (congrArg Cert.KernelIdeal.Main.resCodes (hA c))),
    r3.trans ((Cert.ReferenceIdeal.Plain.final_scales m' c).trans (congrArg Cert.KernelIdeal.Main.resScales (hA c))), hr⟩

end Cert.Proof

end
-- ==== Proof.lean ====
/- The claims of this directory, put together from the modules under Proof/. -/
module
public import proofs.«01_k».proof.Proof.Gen.ReferenceIdeal.Value
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.PFrame.Frame
public import proofs.«01_k».proof.Proof.Main.Frame
public import proofs.«01_k».proof.Proof.Same

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, ⟨⟩,
    fun m ρ _ => Cert.Kernel.Held.frame m ρ,
    fun m ρ _ => Cert.KernelIdeal.Main.frame m ρ,
    fun m ρ _ => Cert.KernelIdeal.Main.frame m ρ,
    fun m ρ _ => Cert.ReferenceIdeal.Gen.frame m ρ,
    fun m ρ _ => Cert.ReferenceIdeal.Gen.frame m ρ,
    trivial,
    same (hPre := ⟨⟩)⟩

end Cert.Proof

end
